-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_are_classes [hPre_labels_are_classes : Cert.Pre_labels_are_classes.Facts] (m : (ℓ : Loc Cert.KernelIdeal.nD Cert.KernelIdeal.τ Cert.KernelIdeal.sig) → Buf (Elt Ideal) ℓ) : Prop :=
  ∀ c : Dev Cert.KernelIdeal.nD,
    (Cert.Pre_labels_are_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_are_classes [hPre_labels_are_classes : Cert.Pre_labels_are_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_are_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_labels_are_classes [hKernelIdeal : Cert.KernelIdeal.Facts] [hPre_labels_are_classes : Cert.Pre_labels_are_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_are_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_labels_are_classes [hReferenceIdeal : Cert.ReferenceIdeal.Facts] [hPre_labels_are_classes : Cert.Pre_labels_are_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_are_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_labels_are_classes [hKernelIdeal : Cert.KernelIdeal.Facts] [hReferenceIdeal : Cert.ReferenceIdeal.Facts] [hPre_labels_are_classes : Cert.Pre_labels_are_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_are_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_labels_are_classes : Cert.Pre_labels_are_classes.Facts),
    quiescent_Kernel (hKernel := hKernel)
    ∧ quiescent_KernelIdeal (hKernelIdeal := hKernelIdeal)
    ∧ quiescent_KernelIdeal_pre_labels_are_classes (hKernelIdeal := hKernelIdeal) (hPre_labels_are_classes := hPre_labels_are_classes)
    ∧ quiescent_ReferenceIdeal (hReferenceIdeal := hReferenceIdeal)
    ∧ quiescent_ReferenceIdeal_pre_labels_are_classes (hReferenceIdeal := hReferenceIdeal) (hPre_labels_are_classes := hPre_labels_are_classes)
    ∧ preserves_Kernel_KernelIdeal
    ∧ algebraic_KernelIdeal_ReferenceIdeal_pre_labels_are_classes (hKernelIdeal := hKernelIdeal) (hReferenceIdeal := hReferenceIdeal) (hPre_labels_are_classes := hPre_labels_are_classes)
-- ==== Pre_labels_are_classes.lean ====
abbrev S512x128 : Shape := ⟨2, ![512, 128]⟩
abbrev S512x256 : Shape := ⟨2, ![512, 256]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S512x128 .f32) (main_arg1 : FVec F S512x256 .f32) (main_arg2 : IVec S512 1) (main_arg3 : IVec S512 32) (main_arg4 : IVec S512 32) (main_arg5 : IVec S_ 32) : IVec S_ 1 :=
  let main_c : IVec S_ 32 := constantI S_ 32 10#32
  let main_v0 : IVec S512 32 := broadcastInDim S512 ![] bcast_S_S512 main_c
  let main_v1 : IVec S512 1 := cmpi .slt main_arg3 main_v0
  let main_c_0 : IVec S_ 1 := constantI S_ 1 1#1
  let main_v2 : IVec S_ 1 := (fun x v => Host.reduce IntOp.andi x v reducesTo_S512_S_d0 h_S_) main_v1 main_c_0
  main_v2
-- ==== Kernel.lean ====
abbrev S512x128 : Shape := ⟨2, ![512, 128]⟩
abbrev S512x256 : Shape := ⟨2, ![512, 256]⟩
abbrev S512 : Shape := ⟨1, ![512]⟩
abbrev S_ : Shape := ⟨0, ![]⟩
abbrev S512x1 : Shape := ⟨2, ![512, 1]⟩
abbrev S256x512 : Shape := ⟨2, ![256, 512]⟩
abbrev S1x512 : Shape := ⟨2, ![1, 512]⟩
abbrev S8x512 : Shape := ⟨2, ![8, 512]⟩
abbrev S512x512 : Shape := ⟨2, ![512, 512]⟩
abbrev S512x16 : Shape := ⟨2, ![512, 16]⟩
abbrev S512x10 : Shape := ⟨2, ![512, 10]⟩
abbrev S256x128 : Shape := ⟨2, ![256, 128]⟩
abbrev S8x128 : Shape := ⟨2, ![8, 128]⟩
abbrev S128x128 : Shape := ⟨2, ![128, 128]⟩
abbrev S1x512x128 : Shape := ⟨3, ![1, 512, 128]⟩
abbrev S1 : Shape := ⟨1, ![1]⟩
abbrev S1x1x1 : Shape := ⟨3, ![1, 1, 1]⟩
abbrev S128x1 : Shape := ⟨2, ![128, 1]⟩
abbrev S128 : Shape := ⟨1, ![128]⟩
abbrev S1x128 : Shape := ⟨2, ![1, 128]⟩

abbrev nBuf : Space → Nat
  | .hbm => 17
  | .vmem => 13
  | .smem => 0
  | _ => 0

abbrev bufTy : (tb : Table) → Fin (tcTables nBuf tb) → BufTy
  | .hbm, ⟨0, _⟩ => ⟨S512x128, .f32⟩
  | .hbm, ⟨1, _⟩ => ⟨S512x256, .f32⟩
  | .hbm, ⟨2, _⟩ => ⟨S512, .i1⟩
  | .hbm, ⟨3, _⟩ => ⟨S512, .i32⟩
  | .hbm, ⟨4, _⟩ => ⟨S512, .i32⟩
  | .hbm, ⟨5, _⟩ => ⟨S_, .i32⟩
  | .hbm, ⟨6, _⟩ => ⟨S512, .f32⟩
  | .hbm, ⟨7, _⟩ => ⟨S512, .f32⟩
  | .hbm, ⟨8, _⟩ => ⟨S512x1, .i32⟩
  | .hbm, ⟨9, _⟩ => ⟨S256x512, .f32⟩
  | .hbm, ⟨10, _⟩ => ⟨S1x512, .f32⟩
  | .hbm, ⟨11, _⟩ => ⟨S8x512, .f32⟩
  | .hbm, ⟨12, _⟩ => ⟨S1x512, .f32⟩
  | .hbm, ⟨13, _⟩ => ⟨S8x512, .f32⟩
  | .hbm, ⟨14, _⟩ => ⟨S512x512, .f32⟩
  | .hbm, ⟨15, _⟩ => ⟨S512x16, .f32⟩
  | .hbm, ⟨16, _⟩ => ⟨S512x10, .f32⟩
  | .local _ .vmem, ⟨0, _⟩ => ⟨S512x128, .f32⟩
  | .local _ .vmem, ⟨1, _⟩ => ⟨S256x128, .f32⟩
  | .local _ .vmem, ⟨2, _⟩ => ⟨S256x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S128x128, .f32⟩
  | .local _ .vmem, ⟨8, _⟩ => ⟨S128x128, .f32⟩
  | .local _ .vmem, ⟨9, _⟩ => ⟨S512x512, .f32⟩
  | .local _ .vmem, ⟨10, _⟩ => ⟨S512x1, .i32⟩
  | .local _ .vmem, ⟨11, _⟩ => ⟨S8x512, .f32⟩
  | .local _ .vmem, ⟨12, _⟩ => ⟨S512x16, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_v3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let c128_i32 : BitVec 32 := 128#32
  let v11 : BitVec 32 := Scalar.muli arg0 c128_i32
  let v12 : Index := Scalar.indexCast v11
  let c0_3 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := .none

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S512x128 : Shape := ⟨2, ![512, 128]⟩
abbrev S512x256 : Shape := ⟨2, ![512, 256]⟩
abbrev S512 : Shape := ⟨1, ![512]⟩
abbrev S_ : Shape := ⟨0, ![]⟩
abbrev S512x1x256 : Shape := ⟨3, ![512, 1, 256]⟩
abbrev S1x512x256 : Shape := ⟨3, ![1, 512, 256]⟩
abbrev S512x512x256 : Shape := ⟨3, ![512, 512, 256]⟩
abbrev S512x512 : Shape := ⟨2, ![512, 512]⟩
abbrev S1x512 : Shape := ⟨2, ![1, 512]⟩
abbrev S512x1 : Shape := ⟨2, ![512, 1]⟩
abbrev S512x10 : Shape := ⟨2, ![512, 10]⟩
abbrev S512x2 : Shape := ⟨2, ![512, 2]⟩

abbrev nBuf : Space → Nat
  | .hbm => 113
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x256, .f32⟩
  | .hbm, ⟨2, _⟩ => ⟨S512, .i1⟩
  | .hbm, ⟨3, _⟩ => ⟨S512, .i32⟩
  | .hbm, ⟨4, _⟩ => ⟨S512, .i32⟩
  | .hbm, ⟨5, _⟩ => ⟨S_, .i32⟩
  | .hbm, ⟨6, _⟩ => ⟨S_, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x256, .f32⟩
  | .hbm, ⟨23, _⟩ => ⟨S512x1x256, .f32⟩
  | .hbm, ⟨24, _⟩ => ⟨S1x512x256, .f32⟩
  | .hbm, ⟨25, _⟩ => ⟨S512x512x256, .f32⟩
  | .hbm, ⟨26, _⟩ => ⟨S512x512x256, .f32⟩
  | .hbm, ⟨27, _⟩ => ⟨S512x512x256, .f32⟩
  | .hbm, ⟨28, _⟩ => ⟨S_, .f32⟩
  | .hbm, ⟨29, _⟩ => ⟨S512x512, .f32⟩
  | .hbm, ⟨30, _⟩ => ⟨S512, .f32⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S512, .f32⟩
  | .hbm, ⟨40, _⟩ => ⟨S1x512, .f32⟩
  | .hbm, ⟨41, _⟩ => ⟨S512x512, .f32⟩
  | .hbm, ⟨42, _⟩ => ⟨S512x512, .f32⟩
  | .hbm, ⟨43, _⟩ => ⟨S1x512, .i1⟩
  | .hbm, ⟨44, _⟩ => ⟨S_, .f32⟩
  | .hbm, ⟨45, _⟩ => ⟨S_, .f32⟩
  | .hbm, ⟨46, _⟩ => ⟨S512x512, .i1⟩
  | .hbm, ⟨47, _⟩ => ⟨S512x512, .f32⟩
  | .hbm, ⟨48, _⟩ => ⟨S512x512, .f32⟩
  | .hbm, ⟨49, _⟩ => ⟨S512x512, .i32⟩
  | .hbm, ⟨50, _⟩ => ⟨S_, .f32⟩
  | .hbm, ⟨51, _⟩ => ⟨S_, .i32⟩
  | .hbm, ⟨52, _⟩ => ⟨S512, .f32⟩
  | .hbm, ⟨53, _⟩ => ⟨S512, .i32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S512x1, .i32⟩
  | .hbm, ⟨62, _⟩ => ⟨S512, .i32⟩
  | .hbm, ⟨63, _⟩ => ⟨S1x512, .i32⟩
  | .hbm, ⟨64, _⟩ => ⟨S512x1, .i32⟩
  | .hbm, ⟨65, _⟩ => ⟨S512x512, .i32⟩
  | .hbm, ⟨66, _⟩ => ⟨S512x512, .i32⟩
  | .hbm, ⟨67, _⟩ => ⟨S512x512, .i1⟩
  | .hbm, ⟨68, _⟩ => ⟨S1x512, .i1⟩
  | .hbm, ⟨69, _⟩ => ⟨S512x512, .i1⟩
  | .hbm, ⟨70, _⟩ => ⟨S512x512, .i1⟩
  | .hbm, ⟨71, _⟩ => ⟨S_, .f32⟩
  | .hbm, ⟨72, _⟩ => ⟨S_, .f32⟩
  | .hbm, ⟨73, _⟩ => ⟨S512x512, .f32⟩
  | .hbm, ⟨74, _⟩ => ⟨S512x512, .f32⟩
  | .hbm, ⟨75, _⟩ => ⟨S_, .f32⟩
  | .hbm, ⟨76, _⟩ => ⟨S512, .f32⟩
  | .hbm, ⟨77, _⟩ => ⟨S_, .i32⟩
  | .hbm, ⟨78, _⟩ => ⟨S512, .i32⟩
  | .hbm, ⟨79, _⟩ => ⟨S512, .i1⟩
  | .hbm, ⟨80, _⟩ => ⟨S_, .f32⟩
  | .hbm, ⟨81, _⟩ => ⟨S512x10, .f32⟩
  | .hbm, ⟨82, _⟩ => ⟨S512, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S512, .i32⟩
  | .hbm, ⟨87, _⟩ => ⟨S512, .i32⟩
  | .hbm, ⟨88, _⟩ => ⟨S_, .i32⟩
  | .hbm, ⟨89, _⟩ => ⟨S512, .i32⟩
  | .hbm, ⟨90, _⟩ => ⟨S512, .i32⟩
  | .hbm, ⟨91, _⟩ => ⟨S_, .f32⟩
  | .hbm, ⟨92, _⟩ => ⟨S_, .f32⟩
  | .hbm, ⟨93, _⟩ => ⟨S512, .f32⟩
  | .hbm, ⟨94, _⟩ => ⟨S512, .f32⟩
  | .hbm, ⟨95, _⟩ => ⟨S_, .i32⟩
  | .hbm, ⟨96, _⟩ => ⟨S512, .i32⟩
  | .hbm, ⟨97, _⟩ => ⟨S512, .i1⟩
  | .hbm, ⟨98, _⟩ => ⟨S_, .i32⟩
  | .hbm, ⟨99, _⟩ => ⟨S512, .i32⟩
  | .hbm, ⟨100, _⟩ => ⟨S512, .i32⟩
  | .hbm, ⟨101, _⟩ => ⟨S512, .i32⟩
  | .hbm, ⟨102, _⟩ => ⟨S_, .i32⟩
  | .hbm, ⟨103, _⟩ => ⟨S512, .i32⟩
  | .hbm, ⟨104, _⟩ => ⟨S512, .i1⟩
  | .hbm, ⟨105, _⟩ => ⟨S_, .i32⟩
  | .hbm, ⟨106, _⟩ => ⟨S512, .i32⟩
  | .hbm, ⟨107, _⟩ => ⟨S512, .i32⟩
  | .hbm, ⟨108, _⟩ => ⟨S512, .i32⟩
  | .hbm, ⟨109, _⟩ => ⟨S512x1, .i32⟩
  | .hbm, ⟨110, _⟩ => ⟨S512x1, .i32⟩
  | .hbm, ⟨111, _⟩ => ⟨S512x2, .i32⟩
  | .hbm, ⟨112, _⟩ => ⟨S512x10, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v29 : Ref sig .tc := ⟨.hbm, 48, rfl⟩
abbrev main_call1_v0 : Ref sig .tc := ⟨.hbm, 49, rfl⟩
abbrev main_call1_cst : Ref sig .tc := ⟨.hbm, 50, rfl⟩
abbrev main_call1_c : Ref sig .tc := ⟨.hbm, 51, rfl⟩
abbrev main_call1_v1_0 : Ref sig .tc := ⟨.hbm, 52, rfl⟩
abbrev main_v30 : Ref sig .tc := ⟨.hbm, 53, rfl⟩
abbrev main_c : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_call2_v0 : Ref sig .tc := ⟨.hbm, 72, rfl⟩
abbrev main_call2_v1 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_c_12 : Ref sig .tc := ⟨.hbm, 77, rfl⟩
abbrev main_v48 : Ref sig .tc := ⟨.hbm, 78, rfl⟩
abbrev main_v49 : Ref sig .tc := ⟨.hbm, 79, rfl⟩
abbrev main_cst_13 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_c_15 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v52 : Ref sig .tc := ⟨.hbm, 90, rfl⟩
abbrev main_cst_16 : Ref sig .tc := ⟨.hbm, 91, rfl⟩
abbrev main_call4_v0 : Ref sig .tc := ⟨.hbm, 92, rfl⟩
abbrev main_call4_v1 : Ref sig .tc := ⟨.hbm, 93, rfl⟩
abbrev main_v53 : Ref sig .tc := ⟨.hbm, 94, rfl⟩
abbrev main_c_17 : Ref sig .tc := ⟨.hbm, 95, rfl⟩
abbrev main_v54 : Ref sig .tc := ⟨.hbm, 96, rfl⟩
abbrev main_v55 : Ref sig .tc := ⟨.hbm, 97, rfl⟩
abbrev main_c_18 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_c_19 : Ref sig .tc := ⟨.hbm, 102, rfl⟩
abbrev main_v59 : Ref sig .tc := ⟨.hbm, 103, rfl⟩
abbrev main_v60 : Ref sig .tc := ⟨.hbm, 104, rfl⟩
abbrev main_c_20 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩

abbrev nD : Nat := 1
abbrev τ : Topo := Topo.v7x

variable {F : FTy → Type} [FloatOps F]
-- ==== Proof.RefRun.lean ====
/-
  The reference program's run: its operations in order, and its result as a function of its arguments.

  The function is stated in the steps of the prediction: the normalised inputs (`normed`), their complement coding
  (`coded`), the sums of the fuzzy AND (`fuzzySum`), the denominators (`denom`), the choice values (`choice`), the
  winning category (`best`), its label (`label`), the value of the winning label's committed categories (`logit`), and
  that value scattered to the label's place in a row of zeros (`result`).
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- Two arrays of 128 columns beside each other. -/
def besideRows (a b : FVec F S512x128 .f32) : FVec F S512x256 .f32 :=
  concatenate S512x256 1 [⟨S512x128, a⟩, ⟨S512x128, b⟩] concatenates_S512x128_S512x128_S512x256_d1

/-- Two columns of indices beside each other. -/
def besideIndices (a b : IVec S512x1 32) : IVec S512x2 32 :=
  concatenate S512x2 1 [⟨S512x1, a⟩, ⟨S512x1, b⟩] concatenates_S512x1_S512x1_S512x2_d1

/-- The smallest entry of `x`. -/
def smallest (x : FVec F S512x128 .f32) : FVec F S_ .f32 :=
  Host.reduce FloatOps.minimumf x (constant S_ .f32 0x7F800000#32) reducesTo_S512x128_S_d0_1 h_S_

/-- The largest entry of `x`. -/
def largest (x : FVec F S512x128 .f32) : FVec F S_ .f32 :=
  Host.reduce FloatOps.maximumf x (constant S_ .f32 0xFF800000#32) reducesTo_S512x128_S_d0_1 h_S_

/-- The inputs, shifted and scaled by their overall range. -/
def normed (x : FVec F S512x128 .f32) : FVec F S512x128 .f32 :=
  Host.divf (subf x (broadcastInDim S512x128 ![] bcast_S_S512x128 (smallest x)))
    (broadcastInDim S512x128 ![] bcast_S_S512x128 (addf (subf (largest x) (smallest x)) (constant S_ .f32 0x2EDBE6FF#32)))

/-- The normalised inputs beside their complements. -/
def coded (x : FVec F S512x128 .f32) : FVec F S512x256 .f32 :=
  besideRows (normed x) (subf (broadcastInDim S512x128 ![] bcast_S_S512x128 (constant S_ .f32 0x3F800000#32)) (normed x))

/-- The fuzzy AND of every coded input with every template, summed over the features. -/
def fuzzySum (x : FVec F S512x128 .f32) (t : FVec F S512x256 .f32) : FVec F S512x512 .f32 :=
  Host.reduceAdd
    (minimumf (broadcastInDim S512x512x256 ![0, 1, 2] bcast_S512x1x256_S512x512x256_0_1_2
        (broadcastInDim S512x1x256 ![0, 2] bcast_S512x256_S512x1x256_0_2 (coded x)))
      (broadcastInDim S512x512x256 ![0, 1, 2] bcast_S1x512x256_S512x512x256_0_1_2
        (broadcastInDim S1x512x256 ![1, 2] bcast_S512x256_S1x512x256_1_2 t)))
    (constant S_ .f32 0x00000000#32) reducesTo_S512x512x256_S512x512_d2 h_S_

/-- The denominator of every category's choice value. -/
def denom (t : FVec F S512x256 .f32) (cnt : IVec S512 32) : FVec F S512 .f32 :=
  addf (addf (broadcastInDim S512 ![] bcast_S_S512 (constant S_ .f32 0x3A83126F#32))
      (Host.reduceAdd t (constant S_ .f32 0x00000000#32) reducesTo_S512x256_S512_d1 h_S_))
    (mulf (broadcastInDim S512 ![] bcast_S_S512 (constant S_ .f32 0x3C23D70A#32)) (sitofp .f32 cnt))

/-- The choice values, minus infinity where the category is not committed. -/
def choice (x : FVec F S512x128 .f32) (t : FVec F S512x256 .f32) (com : IVec S512 1) (cnt : IVec S512 32) :
    FVec F S512x512 .f32 :=
  select (broadcastInDim S512x512 ![0, 1] bcast_S1x512_S512x512_0_1 (broadcastInDim S1x512 ![1] bcast_S512_S1x512_1 com))
    (Host.divf (fuzzySum x t) (broadcastInDim S512x512 ![0, 1] bcast_S1x512_S512x512_0_1
      (broadcastInDim S1x512 ![1] bcast_S512_S1x512_1 (denom t cnt))))
    (broadcastInDim S512x512 ![] bcast_S_S512x512 (constant S_ .f32 0xFF800000#32))

/-- The winning category of every input, a row's first largest entry. -/
def best (cv : FVec F S512x512 .f32) : IVec S512 32 := fun j =>
  (Host.argReduce reducer_argmax_f32_i32 cv (iotaInDim S512x512 32 1) (constant S_ .f32 0xFF800000#32) (constantI S_ 32 0#32)
    reducesTo_S512x512_S512_d1 h_S_ j).2

/-- The label of every input's winning category. -/
def label (lab : IVec S512 32) (b : IVec S512 32) : IVec S512 32 :=
  Host.gather gather_S512_S512x1_S512_n_0_n_n_0_1_1 lab
    (broadcastInDim S512x1 ![0] bcast_S512_S512x1_0
      (select (cmpi .slt b (broadcastInDim S512 ![] bcast_S_S512 (constantI S_ 32 0#32)))
        (addi b (broadcastInDim S512 ![] bcast_S_S512 (constantI S_ 32 512#32))) b))

/-- Every input's sum of choice values over the committed categories that bear the winning label; zero for a negative
    label. -/
def logit (com : IVec S512 1) (lab : IVec S512 32) (cv : FVec F S512x512 .f32) (l : IVec S512 32) : FVec F S512 .f32 :=
  select (cmpi .sge l (broadcastInDim S512 ![] bcast_S_S512 (constantI S_ 32 0#32)))
    (Host.reduceAdd
      (select
        (andi (cmpi .eq (broadcastInDim S512x512 ![0, 1] bcast_S1x512_S512x512_0_1 (broadcastInDim S1x512 ![1] bcast_S512_S1x512_1 lab))
            (broadcastInDim S512x512 ![0, 1] bcast_S512x1_S512x512_0_1 (broadcastInDim S512x1 ![0] bcast_S512_S512x1_0 l)))
          (broadcastInDim S512x512 ![0, 1] bcast_S1x512_S512x512_0_1 (broadcastInDim S1x512 ![1] bcast_S512_S1x512_1 com)))
        cv (broadcastInDim S512x512 ![] bcast_S_S512x512 (constant S_ .f32 0x00000000#32)))
      (constant S_ .f32 0x00000000#32) reducesTo_S512x512_S512_d1 h_S_)
    (broadcastInDim S512 ![] bcast_S_S512 (constant S_ .f32 0x00000000#32))

/-- The row numbers, as the scatter takes them. -/
def rows : IVec S512 32 :=
  select (cmpi .slt (iotaInDim S512 32 0) (broadcastInDim S512 ![] bcast_S_S512 (constantI S_ 32 0#32)))
    (addi (iotaInDim S512 32 0) (broadcastInDim S512 ![] bcast_S_S512 (constantI S_ 32 512#32))) (iotaInDim S512 32 0)

/-- A label clipped to the classes. -/
def clipped (l : IVec S512 32) : IVec S512 32 :=
  minsi (broadcastInDim S512 ![] bcast_S_S512 (constantI S_ 32 9#32))
    (maxsi (broadcastInDim S512 ![] bcast_S_S512 (constantI S_ 32 0#32)) l)

/-- The column numbers, as the scatter takes them. -/
def cols (l : IVec S512 32) : IVec S512 32 :=
  select (cmpi .slt (clipped l) (broadcastInDim S512 ![] bcast_S_S512 (constantI S_ 32 0#32)))
    (addi (clipped l) (broadcastInDim S512 ![] bcast_S_S512 (constantI S_ 32 10#32))) (clipped l)

/-- One value per input, added at the place of its label in an array of zeros. -/
def spread (l : IVec S512 32) (v : FVec F S512 .f32) : FVec F S512x10 .f32 :=
  Host.scatterAdd scatter_S512x10_S512x2_S512_n_01_01_1
    (broadcastInDim S512x10 ![] bcast_S_S512x10 (constant S_ .f32 0x00000000#32))
    (besideIndices (broadcastInDim S512x1 ![0] bcast_S512_S512x1_0 rows)
      (broadcastInDim S512x1 ![0] bcast_S512_S512x1_0 (cols l))) v

/-- The result from the choice values. -/
def fromChoice (com : IVec S512 1) (lab : IVec S512 32) (cv : FVec F S512x512 .f32) : FVec F S512x10 .f32 :=
  spread (label lab (best cv)) (logit com lab cv (label lab (best cv)))

/-- The reference's result as a function of its arguments. -/
def result (x : FVec F S512x128 .f32) (t : FVec F S512x256 .f32) (com : IVec S512 1) (lab cnt : IVec S512 32) :
    FVec F S512x10 .f32 :=
  fromChoice com lab (choice x t com cnt)

/-- The program's operations, in order. -/
abbrev ops : List (HloOp τ sig (Elt F)) :=
  [ nullary main_cst (constant S_ .f32 0x7F800000#32),
    binary main_arg0 main_cst main_v0 (fun x v => Host.reduce FloatOps.minimumf x v reducesTo_S512x128_S_d0_1 h_S_),
    unary main_v0 main_v1 (broadcastInDim S512x128 ![] bcast_S_S512x128),
    binary main_arg0 main_v1 main_v2 subf,
    nullary main_cst_0 (constant S_ .f32 0xFF800000#32),
    binary main_arg0 main_cst_0 main_v3 (fun x v => Host.reduce FloatOps.maximumf x v reducesTo_S512x128_S_d0_1 h_S_),
    nullary main_cst_1 (constant S_ .f32 0x7F800000#32),
    binary main_arg0 main_cst_1 main_v4 (fun x v => Host.reduce FloatOps.minimumf x v reducesTo_S512x128_S_d0_1 h_S_),
    binary main_v3 main_v4 main_v5 subf,
    nullary main_cst_2 (constant S_ .f32 0x2EDBE6FF#32),
    binary main_v5 main_cst_2 main_v6 addf,
    unary main_v6 main_v7 (broadcastInDim S512x128 ![] bcast_S_S512x128),
    binary main_v2 main_v7 main_v8 Host.divf,
    nullary main_cst_3 (constant S_ .f32 0x3F800000#32),
    unary main_cst_3 main_v9 (broadcastInDim S512x128 ![] bcast_S_S512x128),
    binary main_v9 main_v8 main_v10 subf,
    binary main_v8 main_v10 main_v11 besideRows,
    unary main_v11 main_v12 (broadcastInDim S512x1x256 ![0, 2] bcast_S512x256_S512x1x256_0_2),
    unary main_arg1 main_v13 (broadcastInDim S1x512x256 ![1, 2] bcast_S512x256_S1x512x256_1_2),
    unary main_v12 main_v14 (broadcastInDim S512x512x256 ![0, 1, 2] bcast_S512x1x256_S512x512x256_0_1_2),
    unary main_v13 main_v15 (broadcastInDim S512x512x256 ![0, 1, 2] bcast_S1x512x256_S512x512x256_0_1_2),
    binary main_v14 main_v15 main_v16 minimumf,
    nullary main_cst_4 (constant S_ .f32 0x00000000#32),
    binary main_v16 main_cst_4 main_v17 (fun x v => Host.reduceAdd x v reducesTo_S512x512x256_S512x512_d2 h_S_),
    unary main_arg4 main_v18 (sitofp .f32),
    nullary main_cst_5 (constant S_ .f32 0x3C23D70A#32),
    unary main_cst_5 main_v19 (broadcastInDim S512 ![] bcast_S_S512),
    binary main_v19 main_v18 main_v20 mulf,
    nullary main_cst_6 (constant S_ .f32 0x00000000#32),
    binary main_arg1 main_cst_6 main_v21 (fun x v => Host.reduceAdd x v reducesTo_S512x256_S512_d1 h_S_),
    nullary main_cst_7 (constant S_ .f32 0x3A83126F#32),
    unary main_cst_7 main_v22 (broadcastInDim S512 ![] bcast_S_S512),
    binary main_v22 main_v21 main_v23 addf,
    binary main_v23 main_v20 main_v24 addf,
    unary main_v24 main_v25 (broadcastInDim S1x512 ![1] bcast_S512_S1x512_1),
    unary main_v25 main_v26 (broadcastInDim S512x512 ![0, 1] bcast_S1x512_S512x512_0_1),
    binary main_v17 main_v26 main_v27 Host.divf,
    unary main_arg2 main_v28 (broadcastInDim S1x512 ![1] bcast_S512_S1x512_1),
    nullary main_cst_8 (constant S_ .f32 0xFF800000#32),
    TRef.unary (TRef.of (T := ⟨S_, .f32⟩) main_cst_8) (TRef.of (T := ⟨S_, .f32⟩) main_call0_v0) id,
    TRef.unary (TRef.of (T := ⟨S1x512, .i1⟩) main_v28) (TRef.of (T := ⟨S512x512, .i1⟩) main_call0_v1) (broadcastInDim S512x512 ![0, 1] bcast_S1x512_S512x512_0_1),
    TRef.unary (TRef.of (T := ⟨S_, .f32⟩) main_call0_v0) (TRef.of (T := ⟨S512x512, .f32⟩) main_call0_v2) (broadcastInDim S512x512 ![] bcast_S_S512x512),
    TRef.ternary (TRef.of (T := ⟨S512x512, .i1⟩) main_call0_v1) (TRef.of (T := ⟨S512x512, .f32⟩) main_v27) (TRef.of (T := ⟨S512x512, .f32⟩) main_call0_v2) (TRef.of (T := ⟨S512x512, .f32⟩) main_v29) select,
    TRef.nullary (TRef.of (T := ⟨S512x512, .i32⟩) main_call1_v0) (iotaInDim S512x512 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S512x512, .f32⟩) main_v29) (TRef.of (T := ⟨S512x512, .i32⟩) main_call1_v0) (TRef.of (T := ⟨S_, .f32⟩) main_call1_cst) (TRef.of (T := ⟨S_, .i32⟩) main_call1_c) (TRef.of (T := ⟨S512, .f32⟩) main_call1_v1_0) (fun x y u v j => (Host.argReduce reducer_argmax_f32_i32 x y u v reducesTo_S512x512_S512_d1 h_S_ j).1),
    TRef.quaternary (TRef.of (T := ⟨S512x512, .f32⟩) main_v29) (TRef.of (T := ⟨S512x512, .i32⟩) main_call1_v0) (TRef.of (T := ⟨S_, .f32⟩) main_call1_cst) (TRef.of (T := ⟨S_, .i32⟩) main_call1_c) (TRef.of (T := ⟨S512, .i32⟩) main_v30) (fun x y u v j => (Host.argReduce reducer_argmax_f32_i32 x y u v reducesTo_S512x512_S512_d1 h_S_ j).2),
    nullary main_c (constantI S_ 32 0#32),
    unary main_c main_v31 (broadcastInDim S512 ![] bcast_S_S512),
    binary main_v30 main_v31 main_v32 (cmpi .slt),
    nullary main_c_9 (constantI S_ 32 512#32),
    unary main_c_9 main_v33 (broadcastInDim S512 ![] bcast_S_S512),
    binary main_v30 main_v33 main_v34 addi,
    ternary main_v32 main_v34 main_v30 main_v35 select,
    unary main_v35 main_v36 (broadcastInDim S512x1 ![0] bcast_S512_S512x1_0),
    binary main_arg3 main_v36 main_v37 (fun x i => Host.gather gather_S512_S512x1_S512_n_0_n_n_0_1_1 x i),
    unary main_arg3 main_v38 (broadcastInDim S1x512 ![1] bcast_S512_S1x512_1),
    unary main_v37 main_v39 (broadcastInDim S512x1 ![0] bcast_S512_S512x1_0),
    unary main_v38 main_v40 (broadcastInDim S512x512 ![0, 1] bcast_S1x512_S512x512_0_1),
    unary main_v39 main_v41 (broadcastInDim S512x512 ![0, 1] bcast_S512x1_S512x512_0_1),
    binary main_v40 main_v41 main_v42 (cmpi .eq),
    unary main_arg2 main_v43 (broadcastInDim S1x512 ![1] bcast_S512_S1x512_1),
    unary main_v43 main_v44 (broadcastInDim S512x512 ![0, 1] bcast_S1x512_S512x512_0_1),
    binary main_v42 main_v44 main_v45 andi,
    nullary main_cst_10 (constant S_ .f32 0x00000000#32),
    TRef.unary (TRef.of (T := ⟨S_, .f32⟩) main_cst_10) (TRef.of (T := ⟨S_, .f32⟩) main_call2_v0) id,
    TRef.unary (TRef.of (T := ⟨S_, .f32⟩) main_call2_v0) (TRef.of (T := ⟨S512x512, .f32⟩) main_call2_v1) (broadcastInDim S512x512 ![] bcast_S_S512x512),
    TRef.ternary (TRef.of (T := ⟨S512x512, .i1⟩) main_v45) (TRef.of (T := ⟨S512x512, .f32⟩) main_v29) (TRef.of (T := ⟨S512x512, .f32⟩) main_call2_v1) (TRef.of (T := ⟨S512x512, .f32⟩) main_v46) select,
    nullary main_cst_11 (constant S_ .f32 0x00000000#32),
    binary main_v46 main_cst_11 main_v47 (fun x v => Host.reduceAdd x v reducesTo_S512x512_S512_d1 h_S_),
    nullary main_c_12 (constantI S_ 32 0#32),
    unary main_c_12 main_v48 (broadcastInDim S512 ![] bcast_S_S512),
    binary main_v37 main_v48 main_v49 (cmpi .sge),
    nullary main_cst_13 (constant S_ .f32 0x00000000#32),
    unary main_cst_13 main_v50 (broadcastInDim S512x10 ![] bcast_S_S512x10),
    nullary main_v51 (iotaInDim S512 32 0),
    nullary main_c_14 (constantI S_ 32 0#32),
    nullary main_c_15 (constantI S_ 32 9#32),
    TRef.unary (TRef.of (T := ⟨S_, .i32⟩) main_c_14) (TRef.of (T := ⟨S_, .i32⟩) main_call3_v0) id,
    TRef.unary (TRef.of (T := ⟨S_, .i32⟩) main_call3_v0) (TRef.of (T := ⟨S512, .i32⟩) main_call3_v1) (broadcastInDim S512 ![] bcast_S_S512),
    TRef.binary (TRef.of (T := ⟨S512, .i32⟩) main_call3_v1) (TRef.of (T := ⟨S512, .i32⟩) main_v37) (TRef.of (T := ⟨S512, .i32⟩) main_call3_v2) maxsi,
    TRef.unary (TRef.of (T := ⟨S_, .i32⟩) main_c_15) (TRef.of (T := ⟨S_, .i32⟩) main_call3_v3) id,
    TRef.unary (TRef.of (T := ⟨S_, .i32⟩) main_call3_v3) (TRef.of (T := ⟨S512, .i32⟩) main_call3_v4) (broadcastInDim S512 ![] bcast_S_S512),
    TRef.binary (TRef.of (T := ⟨S512, .i32⟩) main_call3_v4) (TRef.of (T := ⟨S512, .i32⟩) main_call3_v2) (TRef.of (T := ⟨S512, .i32⟩) main_v52) minsi,
    nullary main_cst_16 (constant S_ .f32 0x00000000#32),
    TRef.unary (TRef.of (T := ⟨S_, .f32⟩) main_cst_16) (TRef.of (T := ⟨S_, .f32⟩) main_call4_v0) id,
    TRef.unary (TRef.of (T := ⟨S_, .f32⟩) main_call4_v0) (TRef.of (T := ⟨S512, .f32⟩) main_call4_v1) (broadcastInDim S512 ![] bcast_S_S512),
    TRef.ternary (TRef.of (T := ⟨S512, .i1⟩) main_v49) (TRef.of (T := ⟨S512, .f32⟩) main_v47) (TRef.of (T := ⟨S512, .f32⟩) main_call4_v1) (TRef.of (T := ⟨S512, .f32⟩) main_v53) select,
    nullary main_c_17 (constantI S_ 32 0#32),
    unary main_c_17 main_v54 (broadcastInDim S512 ![] bcast_S_S512),
    binary main_v51 main_v54 main_v55 (cmpi .slt),
    nullary main_c_18 (constantI S_ 32 512#32),
    unary main_c_18 main_v56 (broadcastInDim S512 ![] bcast_S_S512),
    binary main_v51 main_v56 main_v57 addi,
    ternary main_v55 main_v57 main_v51 main_v58 select,
    nullary main_c_19 (constantI S_ 32 0#32),
    unary main_c_19 main_v59 (broadcastInDim S512 ![] bcast_S_S512),
    binary main_v52 main_v59 main_v60 (cmpi .slt),
    nullary main_c_20 (constantI S_ 32 10#32),
    unary main_c_20 main_v61 (broadcastInDim S512 ![] bcast_S_S512),
    binary main_v52 main_v61 main_v62 addi,
    ternary main_v60 main_v62 main_v52 main_v63 select,
    unary main_v58 main_v64 (broadcastInDim S512x1 ![0] bcast_S512_S512x1_0),
    unary main_v63 main_v65 (broadcastInDim S512x1 ![0] bcast_S512_S512x1_0),
    binary main_v64 main_v65 main_v66 besideIndices,
    ternary main_v50 main_v66 main_v53 main_v67 (fun x i u => Host.scatterAdd scatter_S512x10_S512x2_S512_n_01_01_1 x i u) ]

set_option maxRecDepth 8192 in
set_option maxHeartbeats 4000000 in
/-- The program is the straight line of its operations. -/
theorem main_eq (c : Dev nD) : main (F := F) c = seq ops := rfl

/-- No buffer of the program is scoped. -/
theorem scopedRefs_eq : (Finset.univ.filter fun b : Ref sig .tc => b.isScoped) = ∅ := by decide

/-- No semaphore of the program is scoped. -/
theorem scopedSems_eq : (Finset.univ.filter fun sm : SemLoc sig => sm.isScoped .tc) = ∅ := by decide

set_option maxRecDepth 8192 in
/-- Every operation reads and writes only buffers of the TensorCore. -/
theorem ops_sub : (ops : List (HloOp τ sig (Elt F))).Forall fun op => op.bufs ⊆ tcRefs τ sig := by
  simp

set_option maxRecDepth 8192 in
set_option maxHeartbeats 42000000 in
/-- From any memory with zero counters the program ends with its result buffer at `result` of its arguments, and with
    its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v67)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨(h c main_v67).trans (by
        simp only [ops, TRef.nullary, TRef.binary, TRef.ternary, TRef.quaternary, TRef.unary, TRef.toBuf, TRef.ofBuf, cast_eq]
        after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.Proof.Ref

end
-- ==== Proof.KernelRun.lean ====
/-
  The run of the kernel program, both launches and the host operations around them, with the result array named.

  The launch set-up is that of the frame certificate (`Gen.frame`), whose last clause is stated anew: besides the
  argument arrays, the result array is read off the last boundary's contents, `Gen.W5` at `main_v3`.
-/
module

public import proofs.«01_k».proof.Proof.Gen.KernelIdeal.Frame

@[expose] public section

set_option maxRecDepth 16384

noncomputable section

namespace Cert.Proof.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- From any memory with zero counters the program ends with its result array at the last boundary's contents and with
    its arguments unchanged. -/
theorem run : θ_run defs (onTc (τ := τ) (main (F := F))) ⟨m, fun _ => 0, ρ⟩ (fun r => ∀ c : Dev nD,
      r.2.mem ((c.tc : Thread nD τ).loc main_v3) = W5 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v3 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Proof.KernelRun

end
-- ==== Proof.ChoiceBlock.lean ====
/-
  What one grid point of the choice kernel stores.

  The body adds, feature by feature, two minima to an accumulator, all 128 features written out. `accum` is the same
  accumulation by recursion on the number of features, `pieces_eq` says that the run's store is the quotient of that
  accumulation, and `stored_apply` reads the stored block at an index.
-/
module

public import proofs.«01_k».proof.Proof.Gen.KernelIdeal.Frame
public import Idealize.ShloMosaic.Lib.Pointwise
public import Idealize.ShloMosaic.Lib.WholeRead

@[expose] public section

set_option maxRecDepth 16384

noncomputable section

namespace Cert.Proof.Choice

open Cert.KernelIdeal Cert.KernelIdeal.Gen
open Idealize.ShloMosaic Idealize.ShloMosaic.TcCoe Idealize.ShloMosaic.Tactic
open Idealize.SL.Sem

section Generic

variable {F : FTy → Type} [FloatOps F]

/-- One column of a 128-by-128 vector is a slice of it. -/
theorem slices_col (d : ℕ) (hd : d < 128) : S128x128.Slices ![0, d] S128x1 :=
  ⟨rfl, fun a => by fin_cases a <;> simp <;> omega⟩

/-- One row of a 256-by-128 vector is a slice of it. -/
theorem slices_row (d : ℕ) (hd : d < 256) : S256x128.Slices ![d, 0] S1x128 :=
  ⟨rfl, fun a => by fin_cases a <;> simp <;> omega⟩

/-- Column `d` of `x`, repeated along the columns. -/
def colOf (x : FVec F S128x128 .f32) (d : ℕ) (hd : d < 128) : FVec F S128x128 .f32 :=
  broadcastTo S128x128 (shapeCast S128x1 (shapeCast S128 (extractStridedSlice S128x1 ![0, d] x (slices_col d hd))
    shapeCasts_S128x1_S128) shapeCasts_S128_S128x1) broadcasts_S128x1_S128x128

/-- Row `d` of `t`, repeated along the rows. -/
def rowOf (t : FVec F S256x128 .f32) (d : ℕ) (hd : d < 256) : FVec F S128x128 .f32 :=
  broadcastTo S128x128 (shapeCast S1x128 (shapeCast S128 (extractStridedSlice S1x128 ![d, 0] t (slices_row d hd))
    shapeCasts_S1x128_S128) shapeCasts_S128_S1x128) broadcasts_S1x128_S128x128

/-- The accumulator after `n` features: for each, the minimum of the input with the template's lower half and the minimum
    of the complement with the template's upper half are added, in this order. -/
def accum (x y : FVec F S128x128 .f32) (t : FVec F S256x128 .f32) : (n : ℕ) → n ≤ 128 → FVec F S128x128 .f32
  | 0, _ => broadcast S128x128 (Scalar.ofBits .f32 0x00000000#32)
  | n + 1, h =>
    addf (addf (accum x y t n (by omega)) (minimumf (colOf x n (by omega)) (rowOf t n (by omega))))
      (minimumf (colOf y n (by omega)) (rowOf t (128 + n) (by omega)))

/-- What a grid point stores, from the whole input `v0`, the point's rows `v13` of it, its block `v20` of the
    templates and its counts and commitments. -/
def stored (v0 : Vec F S512x128 .f32) (v13 : Vec F S128x128 .f32) (v20 : Vec F S256x128 .f32)
    (cnt com : Vec F S1x128 .f32) : FVec F S128x128 .f32 :=
  k0_pay1 (k0_pay4 v20) (accum (k0_pay2 v0 v13) (k0_pay3 v0 v13) (k0_pay4 v20) 128 le_rfl) cnt com

set_option maxHeartbeats 4000000 in
/-- The run's one store is `stored` of what it loads. -/
theorem pieces_eq (c : Dev nD) (i : grid0.Coords) (arg2 : Memref sig .tc .vmem S512x128 .f32) (harg2 : arg2.IsWhole)
    (arg3 : Memref sig .tc .vmem S256x128 .f32) (harg3 : arg3.IsWhole) (arg4 : Memref sig .tc .vmem S8x128 .f32)
    (harg4 : arg4.IsWhole) (arg5 : Memref sig .tc .vmem S8x128 .f32) (harg5 : arg5.IsWhole)
    (arg6 : Memref sig .tc .vmem S128x128 .f32) (harg6 : arg6.IsWhole)
    (x0 : Vec F S512x128 .f32) (x1 : Vec F S256x128 .f32) (x2 : Vec F S8x128 .f32) (x3 : Vec F S8x128 .f32) :
    (kernelRun0_A c i arg2 harg2 arg3 harg3 arg4 harg4 arg5 harg5 arg6 harg6 x0 x1 x2 x3).1
      = [⟨Rect.unit (s := S128x128) ![0, 0] S128x128.size inb_S128x128_S128x128_0_0,
          stored
            (View.readAt (Elt F) arg2.view (Rect.unit (s := S512x128) ![0, 0] S512x128.size inb_S512x128_S512x128_0_0).toLoadRect
              (harg2.unread x0))
            (View.readAt (Elt F) arg2.view (Rect.unit (s := S512x128) (k0_off1 i) S128x128.size (k0_off1_inb i)).toLoadRect
              (harg2.unread x0))
            (View.readAt (Elt F) arg3.view (Rect.unit (s := S256x128) ![0, 0] S256x128.size inb_S256x128_S256x128_0_0).toLoadRect
              (harg3.unread x1))
            (View.readAt (Elt F) arg4.view (Rect.unit (s := S8x128) ![0, 0] S1x128.size inb_S8x128_S1x128_0_0).toLoadRect
              (harg4.unread x2))
            (View.readAt (Elt F) arg5.view (Rect.unit (s := S8x128) ![0, 0] S1x128.size inb_S8x128_S1x128_0_0).toLoadRect
              (harg5.unread x3))⟩] := by
  sl_kernel_rfl

end Generic

end Cert.Proof.Choice

end
-- ==== Proof.RefChoice.lean ====
/-
  The reference's choice values read at an index.
-/
module

public import proofs.«01_k».proof.Proof.RefRun
public import Idealize.ShloMosaic.Lib.Pointwise

@[expose] public section

set_option maxRecDepth 16384

noncomputable section

namespace Cert.Proof.Choice

open Cert.ReferenceIdeal
open Idealize.ShloMosaic Idealize.ShloMosaic.TcCoe Idealize.ShloMosaic.Tactic
open Idealize.SL.Sem

/-- The smallest entry of the input. -/
def lo (v : FVec Ideal S512x128 .f32) : EReal :=
  Finset.fold min (Ideal.ofBits FTy.f32 2139095040#32) (fun x : Fin 512 × Fin 128 => (v (ix2 x.1 x.2) : EReal)) Finset.univ

/-- The largest entry of the input. -/
def hi (v : FVec Ideal S512x128 .f32) : EReal :=
  Finset.fold max (Ideal.ofBits FTy.f32 4286578688#32) (fun x : Fin 512 × Fin 128 => (v (ix2 x.1 x.2) : EReal)) Finset.univ

/-- An entry `e` of the input `v`, normalised. -/
def norm (v : FVec Ideal S512x128 .f32) (e : EReal) : EReal :=
  Ideal.div (e - lo v) (hi v - lo v + Ideal.ofBits FTy.f32 786163455#32)

/-- The reference's normalised rows. -/
theorem normed_apply (v0 : FVec Ideal S512x128 .f32) (p : Fin 512) (d : Fin 128) :
    Ref.normed v0 (ix2 p d) = norm v0 (v0 (ix2 p d)) := by
  pointwise [Ref.normed, Ref.smallest, Ref.largest, norm, lo, hi]

/-- The reference's choice value at an index. -/
theorem choice_apply (v0 : FVec Ideal S512x128 .f32) (t : FVec Ideal S512x256 .f32)
    (com : IVec S512 1) (cnt : IVec S512 32) (p q : Fin 512) :
    (Ref.choice v0 t com cnt (ix2 p q) : EReal)
      = Scalar.select (com (ix1 q))
          (Ideal.div
            ((∑ k : Fin 128, min (norm v0 (v0 (ix2 p k))) (t (ix2 q ⟨k, by omega⟩) : EReal))
              + ∑ k : Fin 128, min (1 - norm v0 (v0 (ix2 p k))) (t (ix2 q ⟨128 + k, by omega⟩) : EReal))
            (Ideal.ofBits FTy.f32 981668463#32 + (∑ k : Fin 256, (t (ix2 q k) : EReal))
              + Ideal.ofBits FTy.f32 1008981770#32 * FloatOps.sitofp (F := Ideal) FTy.f32 (cnt (ix1 q))))
          (Ideal.ofBits FTy.f32 4286578688#32 : EReal) := by
  have h := normed_apply v0
  pointwise [Ref.choice, Ref.fuzzySum, Ref.coded, Ref.besideRows, Ref.denom]
  simp only [h]

end Cert.Proof.Choice

end
-- ==== Proof.ChoiceRead.lean ====
/-
  The block that a grid point of the choice kernel stores, read at an index: the reference's choice values.
-/
module

public import proofs.«01_k».proof.Proof.ChoiceBlock
public import proofs.«01_k».proof.Proof.RefChoice

@[expose] public section

set_option maxRecDepth 16384

noncomputable section

namespace Cert.Proof.Choice

open Cert.KernelIdeal Cert.KernelIdeal.Gen
open Idealize.ShloMosaic Idealize.ShloMosaic.TcCoe Idealize.ShloMosaic.Tactic
open Idealize.SL.Sem

/-- A column of `x`, repeated, holds at `(a, b)` the entry of row `a`. -/
theorem colOf_apply (x : FVec Ideal S128x128 .f32) (n : ℕ) (h : n < 128) (a b : Fin 128) :
    colOf x n h (ix2 a b) = x (ix2 a ⟨n, h⟩) := by
  pointwise [colOf]

/-- A row of `t`, repeated, holds at `(a, b)` the entry of column `b`. -/
theorem rowOf_apply (t : FVec Ideal S256x128 .f32) (n : ℕ) (h : n < 256) (a b : Fin 128) :
    rowOf t n h (ix2 a b) = t (ix2 ⟨n, h⟩ b) := by
  pointwise [rowOf]

/-- The accumulator after `n` features is the two sums over these features. -/
theorem accum_apply (x y : FVec Ideal S128x128 .f32) (t : FVec Ideal S256x128 .f32) (a b : Fin 128) :
    ∀ (n : ℕ) (h : n ≤ 128), (accum x y t n h (ix2 a b) : EReal)
      = (∑ k : Fin n, min (x (ix2 a ⟨k, by omega⟩) : EReal) (t (ix2 ⟨k, by omega⟩ b)))
        + ∑ k : Fin n, min (y (ix2 a ⟨k, by omega⟩) : EReal) (t (ix2 ⟨128 + k, by omega⟩ b))
  | 0, h => by
    pointwise [accum]
    simp
  | n + 1, h => by
    have ih := accum_apply x y t a b n (by omega)
    rw [Fin.sum_univ_castSucc, Fin.sum_univ_castSucc]
    show (accum x y t n _ (ix2 a b) : EReal) + min (colOf x n _ (ix2 a b) : EReal) (rowOf t n _ (ix2 a b))
        + min (colOf y n _ (ix2 a b) : EReal) (rowOf t (128 + n) _ (ix2 a b)) = _
    rw [ih, colOf_apply, colOf_apply, rowOf_apply, rowOf_apply]
    simp only [Fin.val_castSucc, Fin.val_last]
    ac_rfl

/-- The kernel's normalised rows. -/
theorem pay2_apply (v0 : FVec Ideal S512x128 .f32) (v13 : FVec Ideal S128x128 .f32) (p d : Fin 128) :
    k0_pay2 (F := Ideal) v0 v13 (ix2 p d) = norm v0 (v13 (ix2 p d)) := by
  pointwise [k0_pay2, norm, lo, hi]

/-- The kernel's complemented rows. -/
theorem pay3_apply (v0 : FVec Ideal S512x128 .f32) (v13 : FVec Ideal S128x128 .f32) (p d : Fin 128) :
    (k0_pay3 (F := Ideal) v0 v13 (ix2 p d) : EReal) = 1 - norm v0 (v13 (ix2 p d)) := by
  have h := pay2_apply v0 v13 p d
  pointwise [k0_pay3]
  rw [h]

/-- The stored block at an index. -/
theorem stored_apply (v0 : FVec Ideal S512x128 .f32) (v13 : FVec Ideal S128x128 .f32) (v20 : FVec Ideal S256x128 .f32)
    (cnt com : FVec Ideal S1x128 .f32) (a b : Fin 128) :
    (stored (F := Ideal) v0 v13 v20 cnt com (ix2 a b) : EReal)
      = if (0 : EReal) < com (ix2 0 b) then
          Ideal.div
            ((∑ k : Fin 128, min (norm v0 (v13 (ix2 a k))) (v20 (ix2 ⟨k, by omega⟩ b) : EReal))
              + ∑ k : Fin 128, min (1 - norm v0 (v13 (ix2 a k))) (v20 (ix2 ⟨128 + k, by omega⟩ b) : EReal))
            (Ideal.ofBits FTy.f32 981668463#32 + (∑ k : Fin 256, (v20 (ix2 k b) : EReal))
              + Ideal.ofBits FTy.f32 1008981770#32 * cnt (ix2 0 b))
        else Ideal.ofBits FTy.f32 4286578688#32 := by
  have hp : k0_pay4 (F := Ideal) v20 = v20 := by
    funext j
    pointwise [k0_pay4]
  have h := accum_apply (k0_pay2 (F := Ideal) v0 v13) (k0_pay3 (F := Ideal) v0 v13) v20 a b 128 le_rfl
  simp only [Fin.eta, pay2_apply, pay3_apply] at h
  unfold stored
  rw [hp]
  pointwise [k0_pay1]
  rw [h]

/-- A bit widened to a float is positive exactly when it is set. -/
theorem pos_uitofp (b : BitVec 1) : ((0 : EReal) < FloatOps.uitofp (F := Ideal) FTy.f32 b) ↔ b = 1#1 := by
  show ((0 : EReal) < ((b.toNat : ℝ) : EReal)) ↔ _
  rcases BitVec.eq_zero_or_eq_one b with rfl | rfl <;> simp

/-- The stored block holds the reference's choice values at the point's rows and columns, when what the point loads is
    the input's rows from `r`, the templates' from `s` and the counts and commitments of the same categories. -/
theorem stored_eq_choice (v0 : FVec Ideal S512x128 .f32) (t : FVec Ideal Cert.ReferenceIdeal.S512x256 .f32)
    (com : IVec Cert.ReferenceIdeal.S512 1) (cnt : IVec Cert.ReferenceIdeal.S512 32)
    (v13 : FVec Ideal S128x128 .f32) (v20 : FVec Ideal S256x128 .f32) (vcnt vcom : FVec Ideal S1x128 .f32)
    (a b : Fin 128) (p q : Fin 512) (h13 : ∀ k : Fin 128, v13 (ix2 a k) = v0 (ix2 p k))
    (h20 : ∀ k : Fin 256, v20 (ix2 k b) = t (ix2 q k))
    (hcnt : vcnt (ix2 0 b) = FloatOps.sitofp (F := Ideal) FTy.f32 (cnt (ix1 q)))
    (hcom : vcom (ix2 0 b) = FloatOps.uitofp (F := Ideal) FTy.f32 (com (ix1 q))) :
    stored (F := Ideal) v0 v13 v20 vcnt vcom (ix2 a b) = Ref.choice v0 t com cnt (ix2 p q) := by
  refine (stored_apply v0 v13 v20 vcnt vcom a b).trans (Eq.trans ?_ (choice_apply v0 t com cnt p q).symm)
  simp only [h13, h20, hcnt, hcom, pos_uitofp]
  rfl

end Cert.Proof.Choice

end
-- ==== Proof.ChoiceArray.lean ====
/-
  The array the first kernel leaves.

  The 4-by-4 grid's blocks tile the 512-by-512 output. `idx` says which block of its array each window holds at a point,
  `outs_eq` that a point stores `stored` of blocks of the arrays the kernel reads, each read at an index.
-/
module

public import proofs.«01_k».proof.Proof.ChoiceBlock
public import Idealize.ShloMosaic.Lib.Pipeline.ValueKit

@[expose] public section

set_option maxRecDepth 16384

noncomputable section

namespace Cert.Proof.Choice

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- The block each window holds at a point, and the row the point's slice of the input starts at. -/
theorem idx (t : Fin grid0.N) : win0_0.index t = ![0, 0] ∧ win0_1.index t = ![0, (grid0.coords t 1).val]
    ∧ win0_2.index t = ![0, (grid0.coords t 1).val] ∧ win0_3.index t = ![0, (grid0.coords t 1).val]
    ∧ win0_4.index t = ![(grid0.coords t 0).val, (grid0.coords t 1).val]
    ∧ k0_off1 (grid0.coords t) = ![128 * (grid0.coords t 0).val, 0]
    ∧ (grid0.coords t 0).val < 4 ∧ (grid0.coords t 1).val < 4 := by
  revert t; decide +kernel

/-- An index of a unit-stride load, axis by axis. -/
theorem idx_unit_apply {s : Shape} (off size : Fin s.rank → ℕ) (inb) (x : (Rect.unit off size inb).shape.Idx)
    (a : Fin s.rank) : ((Rect.unit off size inb).toLoadRect.idx x a : ℕ) = off a + x a := by
  show off a + 1 * (x a : ℕ) = _
  omega

set_option maxHeartbeats 4000000 in
/-- What a point stores, as `stored` of the whole input and of blocks of the arrays the kernel reads. -/
theorem outs_eq (V : (c : Dev nD) → (b : Ref sig .tc) → Buf (Elt F) ((c : Thread nD τ).loc b)) (c : Dev nD)
    (t : Fin cfg0.N) :
    ∃ (v13 : Vec F S128x128 .f32) (v20 : Vec F S256x128 .f32) (vcnt vcom : Vec F S1x128 .f32),
      outsAt0 V c t = stored (V c main_arg0) v13 v20 vcnt vcom
      ∧ (∀ (a : Fin 128) (k : Fin 128) (p : Fin 512), p.val = 128 * (grid0.coords t 0).val + a.val →
          v13 (ix2 a k) = V c main_arg0 (ix2 p k))
      ∧ (∀ (k : Fin 256) (b : Fin 128) (q : Fin 512), q.val = 128 * (grid0.coords t 1).val + b.val →
          v20 (ix2 k b) = V c main_call0_v0 (ix2 k q))
      ∧ (∀ (b : Fin 128) (q : Fin 512), q.val = 128 * (grid0.coords t 1).val + b.val →
          vcnt (ix2 0 b) = V c main_call0_v2 (ix2 0 q))
      ∧ (∀ (b : Fin 128) (q : Fin 512), q.val = 128 * (grid0.coords t 1).val + b.val →
          vcom (ix2 0 b) = V c main_call0_v4 (ix2 0 q)) := by
  unfold outsAt0 out0_A_4
  rw [pieces_eq, View.read_writes_junk_eq_canon, View.canon_cons_unit_lit _ _ _ (by decide)]
  obtain ⟨e0, e1, e2, e3, -, eo, -, -⟩ := idx t
  refine ⟨_, _, _, _, congrArg (fun v => stored v _ _ _ _) ?_, ?_, ?_, ?_, ?_⟩
  · funext x
    rw [Memref.IsWhole.readAt_unread]
    blk_ext [iblk0, e0]
    all_goals rw [idx_unit_apply]; simp <;> omega
  · intro a k p hp
    rw [Memref.IsWhole.readAt_unread]
    blk_ext [iblk0, e0]
    · rw [idx_unit_apply, show k0_off1 (grid0.coords t) 0 = 128 * (grid0.coords t 0).val from congrFun eo 0]
      exact hp.symm
    · rw [idx_unit_apply, show k0_off1 (grid0.coords t) 1 = 0 from congrFun eo 1]
      exact Nat.zero_add _
  · intro k b q hq
    rw [Memref.IsWhole.readAt_unread]
    blk_ext [iblk0, e1]
    all_goals rw [idx_unit_apply]; simp <;> omega
  · intro b q hq
    rw [Memref.IsWhole.readAt_unread]
    blk_ext [iblk0, e2]
    all_goals rw [idx_unit_apply]; simp <;> omega
  · intro b q hq
    rw [Memref.IsWhole.readAt_unread]
    blk_ext [iblk0, e3]
    all_goals rw [idx_unit_apply]; simp <;> omega

end Cert.Proof.Choice

end
-- ==== Proof.Entry.lean ====
/-
  What the host operations before the first launch leave in the arrays the two kernels read, and what the one after the
  second launch leaves in the result, each at an index.
-/
module

public import proofs.«01_k».proof.Proof.Gen.KernelIdeal.Frame
public import Idealize.ShloMosaic.Lib.Pointwise
public import Idealize.ShloMosaic.Lib.StableHlo.Run

@[expose] public section

set_option maxRecDepth 16384

noncomputable section

namespace Cert.Proof.Entry

open Cert.KernelIdeal Cert.KernelIdeal.Gen
open Idealize.ShloMosaic Idealize.ShloMosaic.TcCoe Idealize.ShloMosaic.Tactic Idealize.ShloMosaic.StableHlo
open Idealize.SL.Sem

variable {F : FTy → Type} [FloatOps F]
variable (m : (ℓ : Loc nD τ sig) → Buf (Elt F) ℓ) (ρ : Dev nD → PrngReg) (c : Dev nD)

/-- The first kernel finds the templates transposed. -/
theorem templates_eq : W2 m ρ c (Proc.devRef .tc main_call0_v0)
    = transpose S256x512 [1, 0] (m ((c : Thread nD τ).loc main_arg1)) transposes_S512x256_S256x512_1_0 := by
  show after hostOps0_1 (after hostOps0 _) _ = _
  after_results_simp
  rfl

/-- The first kernel finds the counts, converted, in each of eight rows. -/
theorem counts_eq : W2 m ρ c (Proc.devRef .tc main_call0_v2)
    = broadcastInDim S8x512 ![0, 1] bcast_S1x512_S8x512_0_1 (broadcastInDim S1x512 ![1] bcast_S512_S1x512_1
        (sitofp (F := F) .f32 (m ((c : Thread nD τ).loc main_arg4)))) := by
  show after hostOps0_1 (after hostOps0 _) _ = _
  after_results_simp
  rfl

/-- Both kernels find the commitments, converted, in each of eight rows. -/
theorem commits_eq : W2 m ρ c (Proc.devRef .tc main_call0_v4)
    = broadcastInDim S8x512 ![0, 1] bcast_S1x512_S8x512_0_1 (broadcastInDim S1x512 ![1] bcast_S512_S1x512_1
        (uitofp (F := F) .f32 (m ((c : Thread nD τ).loc main_arg2)))) := by
  show after hostOps0_1 (after hostOps0 _) _ = _
  after_results_simp
  rfl

/-- The second kernel finds the labels as one column. -/
theorem labels_eq : W2 m ρ c (Proc.devRef .tc main_v2)
    = shapeCast S512x1 (m ((c : Thread nD τ).loc main_arg3)) shapeCasts_S512_S512x1 := by
  show after hostOps0_1 (after hostOps0 _) _ = _
  after_results_simp
  rfl

/-- The result is the first ten columns of what the second kernel writes. -/
theorem result_eq : W5 m ρ c (Proc.devRef .tc main_v3)
    = extractStridedSlice S512x10 ![0, 0] (W4 m ρ c (Proc.devRef .tc main_call0_v6)) slices_S512x16_S512x10_0_0 := by
  show after hostOps2 _ _ = _
  after_results_simp
  rfl

end Cert.Proof.Entry

end
-- ==== Proof.ChoiceFinal.lean ====
/-
  The choice array that the first kernel leaves is the reference's choice array of the arguments.
-/
module

public import proofs.«01_k».proof.Proof.ChoiceRead
public import proofs.«01_k».proof.Proof.ChoiceArray
public import proofs.«01_k».proof.Proof.Entry

@[expose] public section

set_option maxRecDepth 16384

noncomputable section

namespace Cert.Proof.Choice

open Cert.KernelIdeal Cert.KernelIdeal.Gen
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg) (c : Dev nD)

/-- The templates the first kernel reads, at an index. -/
theorem templates_apply (k : Fin 256) (q : Fin 512) : V2 m ρ c main_call0_v0 (ix2 k q)
    = (m ((c : Thread nD τ).loc main_arg1) : FVec Ideal S512x256 .f32) (ix2 q k) := by
  refine (congrFun (Entry.templates_eq m ρ c) _).trans ?_
  pointwise

/-- The counts the first kernel reads, at an index. -/
theorem counts_apply (s : Fin 8) (q : Fin 512) : V2 m ρ c main_call0_v2 (ix2 s q)
    = FloatOps.sitofp (F := Ideal) FTy.f32 ((m ((c : Thread nD τ).loc main_arg4) : IVec S512 32) (ix1 q)) := by
  refine (congrFun (Entry.counts_eq m ρ c) _).trans ?_
  pointwise

/-- The commitments both kernels read, at an index. -/
theorem commits_apply (s : Fin 8) (q : Fin 512) : V2 m ρ c main_call0_v4 (ix2 s q)
    = FloatOps.uitofp (F := Ideal) FTy.f32 ((m ((c : Thread nD τ).loc main_arg2) : IVec S512 1) (ix1 q)) := by
  refine (congrFun (Entry.commits_eq m ρ c) _).trans ?_
  pointwise

/-- The array the first kernel leaves is the reference's choice array. -/
theorem array_eq : W3 m ρ c (Proc.devRef .tc main_call0_v5)
    = Ref.choice (F := Ideal) (m ((c : Thread nD τ).loc main_arg0)) (m ((c : Thread nD τ).loc main_arg1))
        (m ((c : Thread nD τ).loc main_arg2)) (m ((c : Thread nD τ).loc main_arg4)) := by
  refine (W3_arr m ρ c 4).trans ?_
  refine (dat0 (V2 m ρ) c).arrAt_eq_of_covers 4 _ (by decide +kernel) fun t hf y => ?_
  obtain ⟨-, -, -, -, e4, -, hi, hj⟩ := idx t
  obtain ⟨v13, v20, vcnt, vcom, h, h13, h20, hcnt, hcom⟩ := outs_eq (V2 m ρ) c t
  have ha : V2 m ρ c main_arg0 = m ((c : Thread nD τ).loc main_arg0) := W2_args m ρ c main_arg0 (by decide)
  have h0 : (y 0 : ℕ) < 128 := (y 0).isLt
  have h1 : (y 1 : ℕ) < 128 := (y 1).isLt
  have ey : ((cfg0.win 4).blk t).view.emb y
      = ix2 (⟨128 * (grid0.coords t 0).val + (y 0).val, by omega⟩ : Fin 512)
          (⟨128 * (grid0.coords t 1).val + (y 1).val, by omega⟩ : Fin 512) := by
    blk_ext [e4]
  have ex : (cfg0.win 4).xinj (cfg0.grid.coords t) y = ix2 (y 0 : Fin 128) (y 1 : Fin 128) := by
    funext a
    match a with
    | ⟨0, _⟩ => rfl
    | ⟨1, _⟩ => rfl
  rw [ey]
  rw [after0_4, h, ha]
  refine Eq.trans ?_ (stored_eq_choice (m ((c : Thread nD τ).loc main_arg0)) (m ((c : Thread nD τ).loc main_arg1))
    (m ((c : Thread nD τ).loc main_arg2)) (m ((c : Thread nD τ).loc main_arg4)) v13 v20 vcnt vcom (y 0) (y 1) _ _
    (fun k => (h13 _ k _ rfl).trans (congrFun ha _)) (fun k => (h20 k _ _ rfl).trans (templates_apply m ρ c k _))
    ((hcnt _ _ rfl).trans (counts_apply m ρ c 0 _)) ((hcom _ _ rfl).trans (commits_apply m ρ c 0 _)))
  exact congrArg (stored (F := Ideal) (m ((c : Thread nD τ).loc main_arg0)) v13 v20 vcnt vcom) ex

end Cert.Proof.Choice

end
-- ==== Proof.PostArray.lean ====
/-
  The array the second kernel leaves: its one point's one store, the payload of the arrays it reads.
-/
module

public import proofs.«01_k».proof.Proof.ChoiceArray

@[expose] public section

set_option maxRecDepth 16384

noncomputable section

namespace Cert.Proof.Post

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F]

/-- At the second kernel's point each window holds the first block of its array. -/
theorem idx (t : Fin grid1.N) : win1_0.index t = ![0, 0] ∧ win1_1.index t = ![0, 0]
    ∧ win1_2.index t = ![0, 0] ∧ win1_3.index t = ![0, 0] := by
  revert t; decide +kernel

/-- The second kernel's array ends at its payload of the choice array, of the labels and of the commitments' first row. -/
theorem array_eq (V : (c : Dev nD) → (b : Ref sig .tc) → Buf (Elt F) ((c : Thread nD τ).loc b)) (c : Dev nD) :
    ∃ vcom : Vec F S1x512 .f32,
      (dat1 V c).arrAt 3 cfg1.N = k1_pay1 (V c main_call0_v5) (V c main_v2) vcom
      ∧ ∀ q : Fin 512, vcom (ix2 0 q) = V c main_call0_v4 (ix2 0 q) := by
  refine ⟨fun y => V c main_call0_v4 (ix2 0 (y 1)), ?_, fun q => rfl⟩
  refine (dat1 V c).arrAt_eq_of_covers 3 _ (by decide +kernel) fun t hf y => ?_
  blk_simp
  rw [after1_3]
  frame_out
  obtain ⟨e0, e1, e2, e3⟩ := idx t
  have h0 : iblk1 V c 0 t = V c main_call0_v5 := by
    funext x
    blk_ext [iblk1, e0]
  have h1 : iblk1 V c 1 t = V c main_v2 := by
    funext x
    blk_ext [iblk1, e1]
  rw [h0, h1]
  refine congr (congrArg (k1_pay1 _ _) (funext fun x => ?_)) ?_
  · show V c main_call0_v4 _ = _
    congr 1
    funext a
    have h0 : (x 0 : ℕ) < 1 := (x 0).isLt
    refine Fin.ext (((win1_2).rect_emb_val t (r1_2.idx x) a).trans ?_)
    rw [e2]
    match a with
    | ⟨0, _⟩ =>
      show 0 * _ + (0 + 1 * (x 0 : ℕ)) = 0
      omega
    | ⟨1, _⟩ =>
      show 0 * _ + (0 + 1 * (x 1 : ℕ)) = (x 1 : ℕ)
      omega
  · blk_ext [e3]

end Cert.Proof.Post

end
-- ==== Proof.ArgMax.lean ====
/-
  The reference's arg-max: a row's first largest entry.

  The fold keeps, of two pairs of a value and an index, the one with the greater value, and of two equal values the one
  with the smaller index. What survives a fold is therefore a pair of the list that no other pair of it beats.
-/
module

public import proofs.«01_k».proof.Proof.RefRun
public import Idealize.ShloMosaic.Lib.Pointwise
public import Idealize.ShloMosaic.PureOps.Reduce

@[expose] public section

set_option maxRecDepth 16384

noncomputable section

namespace Cert.Proof.ArgMax

open Cert.ReferenceIdeal Cert.ReferenceIdeal.Gen
open Idealize.ShloMosaic Idealize.ShloMosaic.TcCoe Idealize.ShloMosaic.Tactic
open Idealize.SL.Sem

/-- Pair `a` is kept against pair `b`: its value is greater, or the values are equal and its index is not greater. -/
def Keeps (a b : EReal × BitVec 32) : Prop := b.1 < a.1 ∨ (a.1 = b.1 ∧ a.2.toInt ≤ b.2.toInt)

theorem keeps_refl (a : EReal × BitVec 32) : Keeps a a := Or.inr ⟨rfl, le_rfl⟩

theorem keeps_trans {a b c : EReal × BitVec 32} (h : Keeps a b) (h' : Keeps b c) : Keeps a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- One step of the fold gives one of its two pairs, which is kept against both. -/
theorem step (a b : EReal × BitVec 32) :
    ((reducer_argmax_f32_i32 (F := Ideal) a b : EReal × BitVec 32) = a ∧ Keeps a b)
      ∨ ((reducer_argmax_f32_i32 (F := Ideal) a b : EReal × BitVec 32) = b ∧ Keeps b a) := by
  obtain ⟨x, i⟩ := a
  obtain ⟨y, j⟩ := b
  have e : (reducer_argmax_f32_i32 (F := Ideal) (x, i) (y, j) : EReal × BitVec 32)
      = (Scalar.select (IntOp.ori (BitVec.ofBool (decide (y < x))) (BitVec.ofBool (decide (x ≠ x)))) x y,
          Scalar.select (IntOp.ori (IntOp.ori (BitVec.ofBool (decide (y < x))) (BitVec.ofBool (decide (x ≠ x))))
            (IntOp.andi (BitVec.ofBool (decide (x = y))) (IntOp.cmpi .slt i j))) i j) := rfl
  rw [e]
  rcases lt_trichotomy y x with h | h | h
  · refine Or.inl ⟨?_, Or.inl h⟩
    simp [h, h.ne', Scalar.select, IntOp.ori, IntOp.andi]
  · subst h
    by_cases hij : i.toInt < j.toInt
    · refine Or.inl ⟨?_, Or.inr ⟨rfl, hij.le⟩⟩
      simp [Scalar.select, IntOp.ori, IntOp.andi, IntOp.cmpi, BitVec.slt, hij]
    · refine Or.inr ⟨?_, Or.inr ⟨rfl, not_lt.mp hij⟩⟩
      simp [Scalar.select, IntOp.ori, IntOp.andi, IntOp.cmpi, BitVec.slt, hij]
  · refine Or.inr ⟨?_, Or.inl h⟩
    simp [h.not_gt, h.ne, Scalar.select, IntOp.ori, IntOp.andi]

/-- The fold over a list gives the initial pair or a pair of the list, kept against the initial pair and against every
    pair of the list. -/
theorem fold_keeps (l : List (EReal × BitVec 32)) : ∀ a : EReal × BitVec 32,
    let r : EReal × BitVec 32 := l.foldl (reducer_argmax_f32_i32 (F := Ideal)) a
    (r = a ∨ r ∈ l) ∧ Keeps r a ∧ ∀ b ∈ l, Keeps r b := by
  induction l with
  | nil => exact fun a => ⟨Or.inl rfl, keeps_refl a, fun b hb => absurd hb List.not_mem_nil⟩
  | cons x l ih =>
    intro a
    obtain ⟨hm, ha, hl⟩ := ih (reducer_argmax_f32_i32 (F := Ideal) a x)
    have hs : Keeps (reducer_argmax_f32_i32 (F := Ideal) a x) a ∧ Keeps (reducer_argmax_f32_i32 (F := Ideal) a x) x
        ∧ ((reducer_argmax_f32_i32 (F := Ideal) a x : EReal × BitVec 32) = a
          ∨ (reducer_argmax_f32_i32 (F := Ideal) a x : EReal × BitVec 32) = x) := by
      rcases step a x with ⟨h, k⟩ | ⟨h, k⟩ <;> rw [h]
      · exact ⟨keeps_refl a, k, Or.inl rfl⟩
      · exact ⟨k, keeps_refl x, Or.inr rfl⟩
    refine ⟨?_, keeps_trans ha hs.1, ?_⟩
    · rcases hm with hm | hm
      · rcases hs.2.2 with h | h
        · exact Or.inl (hm.trans h)
        · exact Or.inr (List.mem_cons.mpr (Or.inl (hm.trans h)))
      · exact Or.inr (List.mem_cons_of_mem _ hm)
    · intro b hb
      rcases List.mem_cons.mp hb with rfl | hb
      · exact keeps_trans ha hs.2.1
      · exact hl b hb

/-- The row of an entry is what the reduction of the columns drops it to. -/
theorem drop_row (p q : Fin 512) : reducesTo_S512x512_S512_d1.drop (ix2 p q) = ix1 p := by
  funext a
  fin_cases a
  rfl

/-- The pairs of a row. -/
theorem mem_row (cv : FVec Ideal S512x512 .f32) (p : Fin 512) (b : EReal × BitVec 32) :
    b ∈ Host.argReduceFiber (α := EReal) cv (iotaInDim S512x512 32 1) reducesTo_S512x512_S512_d1 (ix1 p)
      ↔ ∃ q : Fin 512, b = (cv (ix2 p q), BitVec.ofNat 32 q) := by
  unfold Host.argReduceFiber
  rw [List.mem_map]
  constructor
  · rintro ⟨n, hn, rfl⟩
    have hd := of_decide_eq_true (List.mem_filter.mp hn).2
    generalize hi : S512x512.rowMajor.symm n = i at hd
    obtain ⟨r, q, rfl⟩ : ∃ (r q : Fin 512), i = ix2 r q := ⟨i 0, i 1, eq_ix2 i⟩
    rw [drop_row] at hd
    have hr : r = p := congrFun hd 0
    exact ⟨q, by rw [hr]; rfl⟩
  · rintro ⟨q, rfl⟩
    refine ⟨S512x512.rowMajor (ix2 p q), List.mem_filter.mpr ⟨List.mem_finRange _, ?_⟩, ?_⟩
    · rw [Equiv.symm_apply_apply]
      exact decide_eq_true (drop_row p q)
    · rw [Equiv.symm_apply_apply]
      rfl

/-- Column `k` holds the first largest entry of row `p`. -/
def First (cv : FVec Ideal S512x512 .f32) (p k : Fin 512) : Prop :=
  ∀ q : Fin 512, (cv (ix2 p q) : EReal) ≤ cv (ix2 p k) ∧ (q < k → (cv (ix2 p q) : EReal) < cv (ix2 p k))

/-- A small natural as a signed word. -/
theorem toInt_ofNat (q : Fin 512) : (BitVec.ofNat 32 q.val).toInt = q.val := by
  have h := q.isLt
  have hn : (BitVec.ofNat 32 q.val).toNat = q.val := by
    rw [BitVec.toNat_ofNat]
    exact Nat.mod_eq_of_lt (by omega)
  rw [BitVec.toInt_eq_toNat_of_lt (by rw [hn]; omega), hn]

/-- The arg-max of a row is the column of its first largest entry. -/
theorem best_spec (cv : FVec Ideal S512x512 .f32) (p : Fin 512) :
    ∃ k : Fin 512, Ref.best cv (ix1 p) = BitVec.ofNat 32 k ∧ First cv p k := by
  have hb : Ref.best cv (ix1 p)
      = ((Host.argReduceFiber (α := EReal) cv (iotaInDim S512x512 32 1) reducesTo_S512x512_S512_d1 (ix1 p)).foldl
          (reducer_argmax_f32_i32 (F := Ideal)) (Ideal.ofBits FTy.f32 4286578688#32, 0#32)).2 := by
    unfold Ref.best
    rw [Ideal.argReduce_eq_reduce2, Host.reduce2_eq_foldl_fiber]
    rfl
  obtain ⟨hm, hi, hl⟩ := fold_keeps
    (Host.argReduceFiber (α := EReal) cv (iotaInDim S512x512 32 1) reducesTo_S512x512_S512_d1 (ix1 p))
    (Ideal.ofBits FTy.f32 4286578688#32, 0#32)
  rw [hb]
  generalize List.foldl _ _ _ = r at hm hi hl ⊢
  have hbot : Ideal.ofBits FTy.f32 4286578688#32 = (⊥ : EReal) := by simp [Ideal.ofBits, Ideal.ieee]
  have hr : ∃ k : Fin 512, r = (cv (ix2 p k), BitVec.ofNat 32 k) := by
    rcases hm with rfl | hm
    · have h0 := hl _ ((mem_row cv p _).mpr ⟨0, rfl⟩)
      refine ⟨0, ?_⟩
      rcases h0 with h0 | ⟨h0, -⟩
      · rw [hbot] at h0
        exact absurd h0 not_lt_bot
      · exact Prod.ext h0 rfl
    · exact (mem_row cv p r).mp hm
  obtain ⟨k, rfl⟩ := hr
  refine ⟨k, rfl, fun q => ?_⟩
  have hq := hl _ ((mem_row cv p _).mpr ⟨q, rfl⟩)
  rcases hq with hq | ⟨hq, hk⟩
  · exact ⟨hq.le, fun _ => hq⟩
  · refine ⟨hq.ge, fun h => ?_⟩
    simp only [toInt_ofNat] at hk
    exact absurd h (by rw [not_lt]; exact_mod_cast hk)

end Cert.Proof.ArgMax

end
-- ==== Proof.Post.lean ====
/-
  What the second kernel stores, read at an index: for a row whose first largest choice value lies in column `k`, the
  entry of class `c` is the sum of the row's choice values over the committed categories labelled `c` if category `k` is
  labelled `c`, and zero otherwise.
-/
module

public import proofs.«01_k».proof.Proof.Gen.KernelIdeal.Frame
public import proofs.«01_k».proof.Proof.ArgMax

@[expose] public section

set_option maxRecDepth 16384

noncomputable section

namespace Cert.Proof.Post

open Cert.KernelIdeal Cert.KernelIdeal.Gen
open Idealize.ShloMosaic Idealize.ShloMosaic.TcCoe Idealize.ShloMosaic.Tactic
open Idealize.SL.Sem
open Cert.Proof.ArgMax (First toInt_ofNat)

/-- The maximum over a row is the entry in the column of its first largest entry. -/
theorem rowMax (cv : FVec Ideal S512x512 .f32) (p k : Fin 512) (h : First cv p k) :
    Finset.fold max (Ideal.ofBits FTy.f32 4286578688#32) (fun q : Fin 512 => (cv (ix2 p q) : EReal)) Finset.univ
      = cv (ix2 p k) := by
  have hbot : Ideal.ofBits FTy.f32 4286578688#32 = (⊥ : EReal) := by simp [Ideal.ofBits, Ideal.ieee]
  rw [hbot]
  refine le_antisymm ?_ ?_
  · rw [Finset.fold_max_le]
    exact ⟨bot_le, fun q _ => (h q).1⟩
  · rw [Finset.le_fold_max]
    exact Or.inr ⟨k, Finset.mem_univ _, le_rfl⟩

/-- The signed minimum, as integers. -/
theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The least column of a row's largest entries. -/
theorem firstColumn (cv : FVec Ideal S512x512 .f32) (p k : Fin 512) (h : First cv p k) :
    Finset.fold IntOp.minsi 2147483647#32
      (fun q : Fin 512 => if (cv (ix2 p q) : EReal) = cv (ix2 p k) then BitVec.ofNat 32 q.val else 512#32) Finset.univ
      = BitVec.ofNat 32 k.val := by
  apply BitVec.eq_of_toInt_eq
  rw [← Finset.fold_hom (op' := min) (m := BitVec.toInt) toInt_minsi, toInt_ofNat]
  have hk := k.isLt
  refine le_antisymm ?_ ?_
  · rw [Finset.fold_min_le]
    refine Or.inr ⟨k, Finset.mem_univ _, ?_⟩
    rw [if_pos rfl, toInt_ofNat]
  · rw [Finset.le_fold_min]
    refine ⟨?_, fun q _ => ?_⟩
    · show (k.val : ℤ) ≤ 2147483647
      omega
    · by_cases hq : (cv (ix2 p q) : EReal) = cv (ix2 p k)
      · rw [if_pos hq, toInt_ofNat]
        have : ¬ q < k := fun hlt => (h q).2 hlt |>.ne hq
        have : k.val ≤ q.val := not_lt.mp this
        exact_mod_cast this
      · rw [if_neg hq]
        show (k.val : ℤ) ≤ 512
        omega

/-- A comparison of words, as a float: one or zero. -/
theorem indicator (a b : BitVec 32) :
    (FloatOps.sitofp (F := Ideal) FTy.f32 (BitVec.setWidth 32 (IntOp.cmpi CmpIPredicate.eq a b)) : EReal)
      = if a = b then 1 else 0 := by
  by_cases h : a = b
  · have e : BitVec.setWidth 32 (IntOp.cmpi CmpIPredicate.eq a b) = 1#32 := by simp [IntOp.cmpi, h]
    rw [e, if_pos h]
    show (((1#32 : BitVec 32).toInt : ℝ) : EReal) = 1
    simp
  · have e : BitVec.setWidth 32 (IntOp.cmpi CmpIPredicate.eq a b) = 0#32 := by
      simp [IntOp.cmpi, beq_eq_false_iff_ne.mpr h]
    rw [e, if_neg h]
    show (((0#32 : BitVec 32).toInt : ℝ) : EReal) = 0
    simp

/-- Columns as words differ when they differ. -/
theorem ofNat_inj (q k : Fin 512) : BitVec.ofNat 32 q.val = BitVec.ofNat 32 k.val ↔ q = k := by
  constructor
  · intro h
    have := congrArg BitVec.toInt h
    rw [toInt_ofNat, toInt_ofNat] at this
    exact Fin.ext (by exact_mod_cast this)
  · rintro rfl
    rfl

/-- The stored array at an index. -/
theorem post_apply (cv : FVec Ideal S512x512 .f32) (lab : IVec S512x1 32) (com : FVec Ideal S1x512 .f32)
    (p k : Fin 512) (h : First cv p k) (c : Fin 16) :
    (k1_pay1 (F := Ideal) cv lab com (ix2 p c) : EReal)
      = if lab (ix2 k 0) = BitVec.ofNat 32 c.val then
          ∑ q : Fin 512, (if lab (ix2 q 0) = BitVec.ofNat 32 c.val then
            (if (0 : EReal) < com (ix2 0 q) then (cv (ix2 p q) : EReal) else 0) else 0)
        else 0 := by
  have hm := rowMax cv p k h
  have hf := firstColumn cv p k h
  pointwise [k1_pay1]
  rw [hm]
  simp only [hf, indicator, ofNat_inj, mul_ite, mul_one, mul_zero]
  have hs : (∑ x : Fin 512, if lab (ix2 x 0) = BitVec.ofNat 32 c.val then (if x = k then (1 : EReal) else 0) else 0)
      = if lab (ix2 k 0) = BitVec.ofNat 32 c.val then 1 else 0 := by
    rw [Finset.sum_eq_single k]
    · rw [if_pos rfl]
    · intro b _ hb
      rw [if_neg hb, ite_self]
    · exact fun hk => absurd (Finset.mem_univ k) hk
  rw [hs]
  split
  · exact one_mul _
  · exact zero_mul _

end Cert.Proof.Post

end
-- ==== Proof.RefPost.lean ====
/-
  The reference's result from the choice values, read at an index.
-/
module

public import proofs.«01_k».proof.Proof.ArgMax
public import Idealize.ShloMosaic.Lib.Routing.OpsSet
public import Idealize.ShloMosaic.Lib.Routing.OpsPair

@[expose] public section

set_option maxRecDepth 16384

noncomputable section

namespace Cert.Proof.Post

open Cert.ReferenceIdeal Cert.ReferenceIdeal.Gen
open Idealize.ShloMosaic Idealize.ShloMosaic.TcCoe Idealize.ShloMosaic.Tactic
open Idealize.SL.Sem
open Cert.Proof.ArgMax (First toInt_ofNat best_spec)

/-- The wrap of a word that is not negative is the word. -/
theorem wrap_of_nonneg (x a : BitVec 32) (h : 0 ≤ x.toInt) :
    Scalar.select (IntOp.cmpi CmpIPredicate.slt x 0#32) a x = x := by
  have e : IntOp.cmpi CmpIPredicate.slt x 0#32 = 0#1 := by
    have : x.slt 0#32 = false := by simpa [BitVec.slt] using h
    simp [IntOp.cmpi, this]
  rw [e]
  rfl

/-- The label of a row's winning category. -/
theorem label_apply (lab b : IVec S512 32) (p k : Fin 512) (h : b (ix1 p) = BitVec.ofNat 32 k.val) :
    Ref.label lab b (ix1 p) = lab (ix1 k) := by
  unfold Ref.label
  refine Routing.gather_take1 gather_S512_S512x1_S512_n_0_n_n_0_1_1 rfl rfl rfl rfl lab _ p k ?_ (by norm_num)
  pointwise
  rw [h]
  exact wrap_of_nonneg _ _ (by rw [toInt_ofNat]; omega)

/-- Where an update of the scatter starts: its pair of index words, read signed. -/
theorem scatter_start (idx : IVec S512x2 32) (a : Fin 512) (q : Fin 2) :
    scatter_S512x10_S512x2_S512_n_01_01_1.start (ix1 a) idx q = (idx (ix2 a q)).toInt := by
  have hm : q ∈ scatter_S512x10_S512x2_S512_n_01_01_1.scatterDimsToOperandDims := by fin_cases q <;> decide
  have hivd : scatter_S512x10_S512x2_S512_n_01_01_1.indexVectorDim = 1 := rfl
  unfold ScatterDims.start
  rw [dif_pos hm]
  refine congrArg (fun i => (idx i).toInt) (funext fun b => Fin.ext ?_)
  match b with
  | ⟨0, _⟩ =>
    unfold ScatterDims.siIdx
    rw [dif_neg (by rw [hivd]; exact (by decide : (0 : ℕ) ≠ 1))]
    unfold ScatterDims.siCoord
    have h1 : ∀ x : Fin 1, ((ix1 a : S512.Idx) x).val = a.val := fun x => by
      rw [Subsingleton.elim x 0]
      rfl
    exact h1 _
  | ⟨1, _⟩ =>
    unfold ScatterDims.siIdx
    rw [dif_pos (by rw [hivd])]
    fin_cases q <;> rfl

/-- An update of the scatter lands at the place that its pair of index words names. -/
theorem scatter_lands (idx : IVec S512x2 32) (a r : Fin 512) (c : Fin 10) :
    scatter_S512x10_S512x2_S512_n_01_01_1.resultIdx? (ix1 a) idx = some (ix2 r c)
      ↔ (idx (ix2 a 0)).toInt = r.val ∧ (idx (ix2 a 1)).toInt = c.val := by
  have hw : ∀ q : Fin 2, scatter_S512x10_S512x2_S512_n_01_01_1.window (ix1 a) q = 0 := fun q => by
    fin_cases q <;> rfl
  refine (Routing.resultIdx?_ix2 scatter_S512x10_S512x2_S512_n_01_01_1 (ix1 a) idx r c).trans ?_
  have h0 := scatter_start idx a 0
  have h1 := scatter_start idx a 1
  rw [h0, h1, hw 0, hw 1]
  omega

/-- A label in range, clipped to the classes, is itself. -/
theorem clip_of_range (x : BitVec 32) (h0 : 0 ≤ x.toInt) (h : x.toInt < 10) :
    IntOp.minsi 9#32 (IntOp.maxsi 0#32 x) = x := by
  have e : IntOp.maxsi 0#32 x = x := by
    unfold IntOp.maxsi
    have : x.slt 0#32 = false := by simpa [BitVec.slt] using h0
    rw [this]
    rfl
  rw [e]
  unfold IntOp.minsi
  have : (9#32).slt x = false := by
    have h9 : (9#32 : BitVec 32).toInt = 9 := rfl
    simp only [BitVec.slt, h9, decide_eq_false_iff_not]
    omega
  rw [this]
  rfl

/-- A value per row, spread over the classes: in a row whose label is in range it lies at the label. -/
theorem spread_apply (l : IVec S512 32) (v : FVec Ideal S512 .f32) (p : Fin 512) (c : Fin 10)
    (hl : (l (ix1 p)).toInt < 10) (hv : (l (ix1 p)).toInt < 0 → (v (ix1 p) : EReal) = 0) :
    (Ref.spread l v (ix2 p c) : EReal) = if l (ix1 p) = BitVec.ofNat 32 c.val then (v (ix1 p) : EReal) else 0 := by
  set idx : IVec S512x2 32 := Ref.besideIndices (broadcastInDim S512x1 ![0] bcast_S512_S512x1_0 Ref.rows)
    (broadcastInDim S512x1 ![0] bcast_S512_S512x1_0 (Ref.cols l)) with hidx
  have hr : ∀ a : Fin 512, (idx (ix2 a 0)).toInt = a.val := fun a => by
    have e : idx (ix2 a 0) = BitVec.ofNat 32 a.val := by
      rw [hidx]
      pointwise [Ref.besideIndices, Ref.rows]
      exact wrap_of_nonneg _ _ (by rw [toInt_ofNat]; omega)
    rw [e, toInt_ofNat]
  have hc : 0 ≤ (l (ix1 p)).toInt → idx (ix2 p 1) = l (ix1 p) := fun h0 => by
    rw [hidx]
    pointwise [Ref.besideIndices, Ref.cols, Ref.clipped]
    rw [clip_of_range _ h0 hl]
    exact wrap_of_nonneg _ _ h0
  have hs : (Ref.spread l v (ix2 p c) : EReal)
      = 0 + ∑ j ∈ Finset.univ.filter (fun j => scatter_S512x10_S512x2_S512_n_01_01_1.resultIdx? j idx = some (ix2 p c)),
          (v j : EReal) := by
    have hz : (broadcastInDim S512x10 ![] bcast_S_S512x10 (constant S_ .f32 0x00000000#32) : FVec Ideal S512x10 .f32)
        (ix2 p c) = (0 : EReal) := by
      pointwise
    rw [← hz]
    rfl
  rw [hs, zero_add]
  have hsum : (∑ j ∈ Finset.univ.filter (fun j => scatter_S512x10_S512x2_S512_n_01_01_1.resultIdx? j idx = some (ix2 p c)),
      (v j : EReal)) = if (idx (ix2 p 1)).toInt = c.val then (v (ix1 p) : EReal) else 0 := by
    rw [Finset.sum_filter, Finset.sum_eq_single (ix1 p)]
    · by_cases h : (idx (ix2 p 1)).toInt = c.val
      · rw [if_pos ((scatter_lands idx p p c).mpr ⟨hr p, h⟩), if_pos h]
      · rw [if_neg fun e => h ((scatter_lands idx p p c).mp e).2, if_neg h]
    · intro j _ hj
      obtain ⟨a, rfl⟩ : ∃ a : Fin 512, j = ix1 a := ⟨j 0, eq_ix1 j⟩
      refine if_neg fun e => hj ?_
      have := ((scatter_lands idx a p c).mp e).1
      rw [hr a] at this
      rw [Fin.ext (by exact_mod_cast this : a.val = p.val)]
    · exact fun h => absurd (Finset.mem_univ _) h
  rw [hsum]
  by_cases h0 : 0 ≤ (l (ix1 p)).toInt
  · rw [hc h0]
    have hcc : (BitVec.ofNat 32 c.val).toInt = c.val := toInt_ofNat ⟨c.val, by omega⟩
    refine if_congr ⟨fun h => BitVec.eq_of_toInt_eq (h.trans hcc.symm), fun h => ?_⟩ rfl rfl
    rw [h, hcc]
  · rw [hv (by omega), ite_self, ite_self]

/-- The sum of a row's choice values over the committed categories of the row's label; zero for a negative label. -/
theorem logit_apply (com : IVec S512 1) (lab : IVec S512 32) (cv : FVec Ideal S512x512 .f32) (l : IVec S512 32)
    (p : Fin 512) :
    (Ref.logit com lab cv l (ix1 p) : EReal)
      = if 0 ≤ (l (ix1 p)).toInt then
          ∑ q : Fin 512, (if lab (ix1 q) = l (ix1 p) then (if com (ix1 q) = 1#1 then (cv (ix2 p q) : EReal) else 0) else 0)
        else 0 := by
  have hsge : ∀ (x : BitVec 32) (a b : EReal),
      Scalar.select (IntOp.cmpi CmpIPredicate.sge x 0#32) a b = if 0 ≤ x.toInt then a else b := fun x a b => by
    by_cases h : 0 ≤ x.toInt
    · have : (0#32).sle x = true := by simpa [BitVec.sle] using h
      simp [IntOp.cmpi, Scalar.select, this, h]
    · have : (0#32).sle x = false := by simpa [BitVec.sle] using h
      simp [IntOp.cmpi, Scalar.select, this, h]
  have hand : ∀ (x y : BitVec 32) (b : BitVec 1) (a : EReal),
      Scalar.select (IntOp.andi (IntOp.cmpi CmpIPredicate.eq x y) b) a 0
        = if x = y then (if b = 1#1 then a else 0) else 0 := fun x y b a => by
    by_cases h : x = y
    · rcases BitVec.eq_zero_or_eq_one b with rfl | rfl <;> simp [IntOp.cmpi, IntOp.andi, Scalar.select, h]
    · simp [IntOp.cmpi, IntOp.andi, Scalar.select, h, beq_eq_false_iff_ne.mpr h]
  pointwise [Ref.logit]
  rw [hsge]
  simp only [hand]

/-- The reference's result at an index, when every label is below the number of classes. -/
theorem fromChoice_apply (com : IVec S512 1) (lab : IVec S512 32) (cv : FVec Ideal S512x512 .f32)
    (hlab : ∀ q : Fin 512, (lab (ix1 q)).toInt < 10) (p k : Fin 512)
    (hk : Ref.best cv (ix1 p) = BitVec.ofNat 32 k.val) (c : Fin 10) :
    (Ref.fromChoice com lab cv (ix2 p c) : EReal)
      = if lab (ix1 k) = BitVec.ofNat 32 c.val then
          ∑ q : Fin 512, (if lab (ix1 q) = BitVec.ofNat 32 c.val then
            (if com (ix1 q) = 1#1 then (cv (ix2 p q) : EReal) else 0) else 0)
        else 0 := by
  have hl := label_apply lab (Ref.best cv) p k hk
  have hlo := logit_apply com lab cv (Ref.label lab (Ref.best cv)) p
  unfold Ref.fromChoice
  rw [spread_apply _ _ p c (by rw [hl]; exact hlab k) (fun h => by rw [hlo, if_neg (by omega)]), hlo, hl]
  refine ite_congr rfl (fun h => ?_) fun _ => rfl
  have hcc : (BitVec.ofNat 32 c.val).toInt = c.val := toInt_ofNat ⟨c.val, by omega⟩
  rw [h, if_pos (by rw [hcc]; omega)]

end Cert.Proof.Post

end
-- ==== Proof.Equation.lean ====
/-
  The kernel's result is the reference's, when every label is below the number of classes.
-/
module

public import proofs.«01_k».proof.Defs
public import proofs.«01_k».proof.Proof.ChoiceFinal
public import proofs.«01_k».proof.Proof.PostArray
public import proofs.«01_k».proof.Proof.ArgMax
public import proofs.«01_k».proof.Proof.Post
public import proofs.«01_k».proof.Proof.RefPost
public import proofs.«01_k».proof.Proof.Gen.Pre_labels_are_classes
public import Idealize.ShloMosaic.Lib.ReduceAll

@[expose] public section

set_option maxRecDepth 16384

noncomputable section

namespace Cert.Proof.Equation

open Cert.KernelIdeal Cert.KernelIdeal.Gen
open Idealize.ShloMosaic Idealize.ShloMosaic.TcCoe Idealize.ShloMosaic.Tactic
open Idealize.SL.Sem

/-- The precondition says that every label is below ten. -/
theorem labels_lt {m : (ℓ : Loc nD τ sig) → Buf (Elt Ideal) ℓ} (h : Cert.Pre_KernelIdeal_labels_are_classes m)
    (c : Dev nD) (q : Fin 512) : ((m ((c : Thread nD τ).loc main_arg3) : IVec S512 32) (ix1 q)).toInt < 10 := by
  have h := congrFun (h c) (fun a => a.elim0)
  have : Subsingleton Cert.Pre_labels_are_classes.S_.Idx := ⟨fun a b => funext fun i => i.elim0⟩
  have hq := Host.reduce_andi_all _ _ _ _ _ h (ix1 q)
  exact of_decide_eq_true ((StableHlo.Predicate.ofBool_eq_one_iff _).mp hq)

variable (m : (ℓ : Loc nD τ sig) → Buf (Elt Ideal) ℓ) (ρ : Dev nD → PrngReg) (c : Dev nD)

/-- The second kernel finds the labels as one column, at an index. -/
theorem labels_apply (q : Fin 512) : (W2 m ρ c (Proc.devRef .tc main_v2) : IVec S512x1 32) (ix2 q 0)
    = (m ((c : Thread nD τ).loc main_arg3) : IVec S512 32) (ix1 q) := by
  refine (congrFun (Entry.labels_eq m ρ c) _).trans ?_
  pointwise

/-- The result array holds the reference's result of the arguments. -/
theorem result_eq (hlab : ∀ q : Fin 512, ((m ((c : Thread nD τ).loc main_arg3) : IVec S512 32) (ix1 q)).toInt < 10) :
    W5 m ρ c (Proc.devRef .tc main_v3)
      = Ref.result (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  obtain ⟨vcom, h6, hcom⟩ := Post.array_eq (V3 m ρ) c
  obtain ⟨L, e2, hL⟩ : ∃ L : IVec S512x1 32, V3 m ρ c main_v2 = L
      ∧ ∀ q : Fin 512, L (ix2 q 0) = (m ((c : Thread nD τ).loc main_arg3) : IVec S512 32) (ix1 q) :=
    ⟨_, W3_of m ρ c main_v2 (by decide), labels_apply m ρ c⟩
  have e4 : V3 m ρ c main_call0_v4 = W2 m ρ c (Proc.devRef .tc main_call0_v4) := W3_of m ρ c main_call0_v4 (by decide)
  have e5 : V3 m ρ c main_call0_v5 = Ref.choice (F := Ideal) (m ((c : Thread nD τ).loc main_arg0))
      (m ((c : Thread nD τ).loc main_arg1)) (m ((c : Thread nD τ).loc main_arg2))
      (m ((c : Thread nD τ).loc main_arg4)) := Choice.array_eq m ρ c
  rw [e5, e2] at h6
  rw [Entry.result_eq, show W4 m ρ c (Proc.devRef .tc main_call0_v6) = _ from (W4_arr m ρ c 3).trans h6]
  unfold Ref.result
  generalize Ref.choice (F := Ideal) (m ((c : Thread nD τ).loc main_arg0))
      (m ((c : Thread nD τ).loc main_arg1)) (m ((c : Thread nD τ).loc main_arg2))
      (m ((c : Thread nD τ).loc main_arg4)) = cv
  funext j
  obtain ⟨p, k, rfl⟩ : ∃ (p : Fin 512) (k : Fin 10), j = ix2 p k := ⟨j 0, j 1, by
    funext a
    match a with
    | ⟨0, _⟩ => rfl
    | ⟨1, _⟩ => rfl⟩
  obtain ⟨b, hb, hf⟩ := ArgMax.best_spec cv p
  rw [Post.fromChoice_apply _ _ cv hlab p b hb k]
  have hcut : extractStridedSlice S512x10 ![0, 0] (k1_pay1 (F := Ideal) cv L vcom)
      slices_S512x16_S512x10_0_0 (ix2 p k)
      = k1_pay1 (F := Ideal) cv L vcom (ix2 p (⟨k.val, by omega⟩ : Fin 16)) := by
    generalize k1_pay1 (F := Ideal) cv L vcom = w
    pointwise
  refine hcut.trans ((Post.post_apply cv _ vcom p b hf _).trans ?_)
  have hpos : ∀ q : Fin 512, ((0 : EReal) < vcom (ix2 0 q))
      ↔ (m ((c : Thread nD τ).loc main_arg2) : IVec S512 1) (ix1 q) = 1#1 := fun q => by
    rw [hcom q, e4]
    exact (iff_of_eq (congrArg _ (Choice.commits_apply m ρ c 0 q))).trans (Choice.pos_uitofp _)
  simp only [hL, hpos]

end Cert.Proof.Equation

end
-- ==== Proof.lean ====
/-
  The claims about the kernel, proved: the frames of the three programs, that idealizing the kernel changed nothing, and
  that the idealized kernel computes the reference's result whenever every label is below the number of classes.

  The runs are those of KernelRun.lean and RefRun.lean, the equation between their results is Equation.lean's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_labels_are_classes
public import proofs.«01_k».proof.Proof.RefRun
public import proofs.«01_k».proof.Proof.KernelRun
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its arguments unchanged and with every semaphore counter at zero. -/
theorem frame_reference : Cert.quiescent_ReferenceIdeal := fun m g _ =>
  (θ_run Cert.ReferenceIdeal.defs _ _).mono
    (fun r h => ⟨fun c => (h c).2, sem_eq_zero_of_no_sems (by decide) r.2⟩) (Cert.Proof.Ref.run m g)

/-- The idealized kernel and the reference, from memories that agree on the arguments and whose labels are below the
    number of classes, end with equal results and with their arguments unchanged. -/
theorem value : Cert.algebraic_KernelIdeal_ReferenceIdeal_pre_labels_are_classes := by
  intro m g m' g' hpre hagree
  refine ⟨fun c => Cert.KernelIdeal.Gen.W5 m g c (Proc.devRef .tc Cert.KernelIdeal.main_v3),
    Cert.Proof.KernelRun.run m g,
    (θ_run Cert.ReferenceIdeal.defs _ _).mono (fun r h c => ⟨(h c).1.trans ?_, (h c).2⟩) (Cert.Proof.Ref.run m' g')⟩
  obtain ⟨h0, h1, h2, h3, h4, -⟩ := hagree c
  rw [h0, h1, h2, h3, h4]
  exact (Cert.Proof.Equation.result_eq m g c (Cert.Proof.Equation.labels_lt hpre c)).symm

/-- The frames of the three programs, that idealizing the kernel changed nothing, and the equality of the results. -/
theorem claim : Cert.Claim :=
  ⟨Cert.Kernel.Gen.facts, Cert.KernelIdeal.Gen.facts, Cert.ReferenceIdeal.Gen.facts,
    Cert.Pre_labels_are_classes.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    trivial, value⟩

end Cert.Proof

end
